-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeRefIdeal (m : (ℓ : Loc Cert.MoeRefIdeal.nD Cert.MoeRefIdeal.τ Cert.MoeRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_finite_weights [hPre_finite_weights : Cert.Pre_finite_weights.Facts] (m : (ℓ : Loc Cert.InprojIdeal.nD Cert.InprojIdeal.τ Cert.InprojIdeal.sig) → Buf (Elt Ideal) ℓ) : Prop :=
  ∀ c : Dev Cert.InprojIdeal.nD,
    (Cert.Pre_finite_weights.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5))).1 = (fun _ => 1#1)
    ∧ (Cert.Pre_finite_weights.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5))).2 = (fun _ => 1#1)

def Pre_InprojRefIdeal (m : (ℓ : Loc Cert.InprojRefIdeal.nD Cert.InprojRefIdeal.τ Cert.InprojRefIdeal.sig) → Buf (Elt Ideal) ℓ) : Prop :=
  True

def Pre_InprojRefIdeal_finite_weights [hPre_finite_weights : Cert.Pre_finite_weights.Facts] (m : (ℓ : Loc Cert.InprojRefIdeal.nD Cert.InprojRefIdeal.τ Cert.InprojRefIdeal.sig) → Buf (Elt Ideal) ℓ) : Prop :=
  ∀ c : Dev Cert.InprojRefIdeal.nD,
    (Cert.Pre_finite_weights.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5))).1 = (fun _ => 1#1)
    ∧ (Cert.Pre_finite_weights.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5))).2 = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_finite_router [hPre_finite_router : Cert.Pre_finite_router.Facts] (m : (ℓ : Loc Cert.PostIdeal.nD Cert.PostIdeal.τ Cert.PostIdeal.sig) → Buf (Elt Ideal) ℓ) : Prop :=
  ∀ c : Dev Cert.PostIdeal.nD,
    (Cert.Pre_finite_router.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9))).1 = (fun _ => 1#1)
    ∧ (Cert.Pre_finite_router.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9))).2.1 = (fun _ => 1#1)
    ∧ (Cert.Pre_finite_router.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9))).2.2 = (fun _ => 1#1)

def Pre_PostRefIdeal (m : (ℓ : Loc Cert.PostRefIdeal.nD Cert.PostRefIdeal.τ Cert.PostRefIdeal.sig) → Buf (Elt Ideal) ℓ) : Prop :=
  True

def Pre_PostRefIdeal_finite_router [hPre_finite_router : Cert.Pre_finite_router.Facts] (m : (ℓ : Loc Cert.PostRefIdeal.nD Cert.PostRefIdeal.τ Cert.PostRefIdeal.sig) → Buf (Elt Ideal) ℓ) : Prop :=
  ∀ c : Dev Cert.PostRefIdeal.nD,
    (Cert.Pre_finite_router.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9))).1 = (fun _ => 1#1)
    ∧ (Cert.Pre_finite_router.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9))).2.1 = (fun _ => 1#1)
    ∧ (Cert.Pre_finite_router.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ r.2.sem = fun _ => 0)

def quiescent_InprojIdeal_pre_finite_weights [hInprojIdeal : Cert.InprojIdeal.Facts] [hPre_finite_weights : Cert.Pre_finite_weights.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_finite_weights m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5))
      ∧ r.2.sem = fun _ => 0)

def quiescent_InprojRefIdeal_pre_finite_weights [hInprojRefIdeal : Cert.InprojRefIdeal.Facts] [hPre_finite_weights : Cert.Pre_finite_weights.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal_finite_weights m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9))
      ∧ r.2.sem = fun _ => 0)

def quiescent_PostIdeal_pre_finite_router [hPostIdeal : Cert.PostIdeal.Facts] [hPre_finite_router : Cert.Pre_finite_router.Facts] : Prop :=
  ∀ (m : (ℓ : Loc Cert.PostIdeal.nD Cert.PostIdeal.τ Cert.PostIdeal.sig) → Buf (Elt Ideal) ℓ) (g : Dev Cert.PostIdeal.nD → PrngReg), Pre_PostIdeal_finite_router m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9))
      ∧ r.2.sem = fun _ => 0)

def quiescent_PostRefIdeal_pre_finite_router [hPostRefIdeal : Cert.PostRefIdeal.Facts] [hPre_finite_router : Cert.Pre_finite_router.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal_finite_router m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Moe_MoeIdeal : Prop :=
  True

def algebraic_MoeIdeal_MoeRefIdeal [hMoeIdeal : Cert.MoeIdeal.Facts] [hMoeRefIdeal : Cert.MoeRefIdeal.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v3)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v3) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v14) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5))

def preserves_Inproj_InprojIdeal : Prop :=
  True

def algebraic_InprojIdeal_InprojRefIdeal_pre_finite_weights [hInprojIdeal : Cert.InprojIdeal.Facts] [hInprojRefIdeal : Cert.InprojRefIdeal.Facts] [hPre_finite_weights : Cert.Pre_finite_weights.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal_finite_weights m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)) →
    ∃ (v0 : (c : Dev Cert.InprojIdeal.nD) → Buf (Elt Ideal) ((c.tc : Thread Cert.InprojIdeal.nD Cert.InprojIdeal.τ).loc Cert.InprojIdeal.main_v13_0)) (v1 : (c : Dev Cert.InprojIdeal.nD) → Buf (Elt Ideal) ((c.tc : Thread Cert.InprojIdeal.nD Cert.InprojIdeal.τ).loc Cert.InprojIdeal.main_v13_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v13_0) = v0 c
          ∧ r.2.mem ((c.tc : Thread Cert.InprojIdeal.nD Cert.InprojIdeal.τ).loc Cert.InprojIdeal.main_v13_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v50) = v0 c
          ∧ r.2.mem ((c.tc : Thread Cert.InprojRefIdeal.nD Cert.InprojRefIdeal.τ).loc Cert.InprojRefIdeal.main_v51) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5))

def preserves_Post_PostIdeal : Prop :=
  True

def algebraic_PostIdeal_PostRefIdeal_pre_finite_router [hPostIdeal : Cert.PostIdeal.Facts] [hPostRefIdeal : Cert.PostRefIdeal.Facts] [hPre_finite_router : Cert.Pre_finite_router.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal_finite_router m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)) →
    ∃ (v0 : (c : Dev Cert.PostIdeal.nD) → Buf (Elt Ideal) ((c.tc : Thread Cert.PostIdeal.nD Cert.PostIdeal.τ).loc Cert.PostIdeal.main_v5_0)) (v1 : (c : Dev Cert.PostIdeal.nD) → Buf (Elt Ideal) ((c.tc : Thread Cert.PostIdeal.nD Cert.PostIdeal.τ).loc Cert.PostIdeal.main_v5_1)) (v2 : (c : Dev Cert.PostIdeal.nD) → Buf (Elt Ideal) ((c.tc : Thread Cert.PostIdeal.nD Cert.PostIdeal.τ).loc Cert.PostIdeal.main_v5_2)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v5_0) = v0 c
          ∧ r.2.mem ((c.tc : Thread Cert.PostIdeal.nD Cert.PostIdeal.τ).loc Cert.PostIdeal.main_v5_1) = v1 c
          ∧ r.2.mem ((c.tc : Thread Cert.PostIdeal.nD Cert.PostIdeal.τ).loc Cert.PostIdeal.main_v5_2) = v2 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v18) = v0 c
          ∧ r.2.mem ((c.tc : Thread Cert.PostRefIdeal.nD Cert.PostRefIdeal.τ).loc Cert.PostRefIdeal.main_v32) = v1 c
          ∧ r.2.mem ((c.tc : Thread Cert.PostRefIdeal.nD Cert.PostRefIdeal.τ).loc Cert.PostRefIdeal.main_v87) = v2 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9))

def Claim : Prop :=
  ∃ (hKernel : Cert.Kernel.Facts) (hKernelIdeal : Cert.KernelIdeal.Facts) (hReferenceIdeal : Cert.ReferenceIdeal.Facts) (hMoe : Cert.Moe.Facts) (hMoeIdeal : Cert.MoeIdeal.Facts) (hMoeRefIdeal : Cert.MoeRefIdeal.Facts) (hInproj : Cert.Inproj.Facts) (hInprojIdeal : Cert.InprojIdeal.Facts) (hInprojRefIdeal : Cert.InprojRefIdeal.Facts) (hPost : Cert.Post.Facts) (hPostIdeal : Cert.PostIdeal.Facts) (hPostRefIdeal : Cert.PostRefIdeal.Facts) (hPre_finite_inputs : Cert.Pre_finite_inputs.Facts) (hPre_finite_weights : Cert.Pre_finite_weights.Facts) (hPre_finite_router : Cert.Pre_finite_router.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Moe (hMoe := hMoe)
    ∧ quiescent_MoeIdeal (hMoeIdeal := hMoeIdeal)
    ∧ quiescent_MoeRefIdeal (hMoeRefIdeal := hMoeRefIdeal)
    ∧ quiescent_Inproj (hInproj := hInproj)
    ∧ quiescent_InprojIdeal (hInprojIdeal := hInprojIdeal)
    ∧ quiescent_InprojIdeal_pre_finite_weights (hInprojIdeal := hInprojIdeal) (hPre_finite_weights := hPre_finite_weights)
    ∧ quiescent_InprojRefIdeal (hInprojRefIdeal := hInprojRefIdeal)
    ∧ quiescent_InprojRefIdeal_pre_finite_weights (hInprojRefIdeal := hInprojRefIdeal) (hPre_finite_weights := hPre_finite_weights)
    ∧ quiescent_Post (hPost := hPost)
    ∧ quiescent_PostIdeal (hPostIdeal := hPostIdeal)
    ∧ quiescent_PostIdeal_pre_finite_router (hPostIdeal := hPostIdeal) (hPre_finite_router := hPre_finite_router)
    ∧ quiescent_PostRefIdeal (hPostRefIdeal := hPostRefIdeal)
    ∧ quiescent_PostRefIdeal_pre_finite_router (hPostRefIdeal := hPostRefIdeal) (hPre_finite_router := hPre_finite_router)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Moe_MoeIdeal
    ∧ algebraic_MoeIdeal_MoeRefIdeal (hMoeIdeal := hMoeIdeal) (hMoeRefIdeal := hMoeRefIdeal)
    ∧ preserves_Inproj_InprojIdeal
    ∧ algebraic_InprojIdeal_InprojRefIdeal_pre_finite_weights (hInprojIdeal := hInprojIdeal) (hInprojRefIdeal := hInprojRefIdeal) (hPre_finite_weights := hPre_finite_weights)
    ∧ preserves_Post_PostIdeal
    ∧ algebraic_PostIdeal_PostRefIdeal_pre_finite_router (hPostIdeal := hPostIdeal) (hPostRefIdeal := hPostRefIdeal) (hPre_finite_router := hPre_finite_router)
-- ==== Pre_finite_inputs.lean ====
abbrev S16x2048x5120 : Shape := ⟨3, ![16, 2048, 5120]⟩
abbrev S257x8 : Shape := ⟨2, ![257, 8]⟩
abbrev S16x2048x1024 : Shape := ⟨3, ![16, 2048, 1024]⟩
abbrev S_ : Shape := ⟨0, ![]⟩

class Facts : Prop where
  slices_S16x2048x5120_S16x2048x1024_0_0_0 : S16x2048x5120.Slices ![0, 0, 0] S16x2048x1024
  bitsLt_bf16_f32 : FTy.bits .bf16 < FTy.bits .f32
  bcast_S_S16x2048x1024 : S_.BroadcastsInDim S16x2048x1024 (![] : Fin 0 → Fin S16x2048x1024.rank)
  bcast_S_S257x8 : S_.BroadcastsInDim S257x8 (![] : Fin 0 → Fin S257x8.rank)

variable [Facts]

def fn {F : FTy → Type} [FloatOps F] (main_arg0 : FVec F S16x2048x5120 .bf16) (main_arg1 : FVec F S257x8 .f32) : IVec S16x2048x1024 1 × IVec S257x8 1 :=
  let main_v0 : FVec F S16x2048x1024 .bf16 := (extractStridedSlice S16x2048x1024 ![0, 0, 0] · slices_S16x2048x5120_S16x2048x1024_0_0_0) main_arg0
  let main_v1 : FVec F S16x2048x1024 .f32 := (extf .f32 · bitsLt_bf16_f32) main_v0
  let main_v2 : FVec F S16x2048x1024 .f32 := Host.absf main_v1
  let main_cst : FVec F S_ .f32 := constant S_ .f32 0x7F800000#32
  let main_v3 : FVec F S16x2048x1024 .f32 := broadcastInDim S16x2048x1024 ![] bcast_S_S16x2048x1024 main_cst
  let main_v4 : IVec S16x2048x1024 1 := cmpf .olt main_v2 main_v3
  let main_v5 : FVec F S257x8 .f32 := Host.absf main_arg1
  let main_cst_0 : FVec F S_ .f32 := constant S_ .f32 0x7F800000#32
  let main_v6 : FVec F S257x8 .f32 := broadcastInDim S257x8 ![] bcast_S_S257x8 main_cst_0
  let main_v7 : IVec S257x8 1 := cmpf .olt main_v5 main_v6
  (main_v4, main_v7)
-- ==== Pre_finite_router.lean ====
abbrev S32768x1024 : Shape := ⟨2, ![32768, 1024]⟩
abbrev S32768x512 : Shape := ⟨2, ![32768, 512]⟩
abbrev S32768x5120 : Shape := ⟨2, ![32768, 5120]⟩
abbrev S512x1024 : Shape := ⟨2, ![512, 1024]⟩
abbrev S1024x1024 : Shape := ⟨2, ![1024, 1024]⟩
abbrev S1024 : Shape := ⟨1, ![1024]⟩
abbrev S1024x128 : Shape := ⟨2, ![1024, 128]⟩
abbrev S128 : Shape := ⟨1, ![128]⟩
abbrev S_ : Shape := ⟨0, ![]⟩
abbrev S1024x36 : Shape := ⟨2, ![1024, 36]⟩
abbrev S36 : Shape := ⟨1, ![36]⟩

class Facts : Prop where
  bcast_S_S1024 : S_.BroadcastsInDim S1024 (![] : Fin 0 → Fin S1024.rank)
  slices_S1024x128_S1024x36_0_0 : S1024x128.Slices ![0, 0] S1024x36
  bcast_S_S1024x36 : S_.BroadcastsInDim S1024x36 (![] : Fin 0 → Fin S1024x36.rank)
  slices_S128_S36_0 : S128.Slices ![0] S36
  bcast_S_S36 : S_.BroadcastsInDim S36 (![] : Fin 0 → Fin S36.rank)

variable [Facts]

def fn {F : FTy → Type} [FloatOps F] (main_arg0 : FVec F S32768x1024 .f32) (main_arg1 : FVec F S32768x512 .bf16) (main_arg2 : FVec F S32768x512 .bf16) (main_arg3 : FVec F S32768x5120 .bf16) (main_arg4 : FVec F S512x1024 .f32) (main_arg5 : FVec F S512x1024 .f32) (main_arg6 : FVec F S1024x1024 .f32) (main_arg7 : FVec F S1024 .f32) (main_arg8 : FVec F S1024x128 .f32) (main_arg9 : FVec F S128 .f32) : IVec S1024 1 × IVec S1024x36 1 × IVec S36 1 :=
  let main_v0 : FVec F S1024 .f32 := Host.absf main_arg7
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x36 .f32 := (extractStridedSlice S1024x36 ![0, 0] · slices_S1024x128_S1024x36_0_0) main_arg8
  let main_v4 : FVec F S1024x36 .f32 := Host.absf main_v3
  let main_cst_0 : FVec F S_ .f32 := constant S_ .f32 0x7F800000#32
  let main_v5 : FVec F S1024x36 .f32 := broadcastInDim S1024x36 ![] bcast_S_S1024x36 main_cst_0
  let main_v6 : IVec S1024x36 1 := cmpf .olt main_v4 main_v5
  let main_v7 : FVec F S36 .f32 := (extractStridedSlice S36 ![0] · slices_S128_S36_0) main_arg9
  let main_v8 : FVec F S36 .f32 := Host.absf main_v7
  let main_cst_1 : FVec F S_ .f32 := constant S_ .f32 0x7F800000#32
  let main_v9 : FVec F S36 .f32 := broadcastInDim S36 ![] bcast_S_S36 main_cst_1
  let main_v10 : IVec S36 1 := cmpf .olt main_v8 main_v9
  (main_v2, main_v6, main_v10)
-- ==== Pre_finite_weights.lean ====
abbrev S32768x1024 : Shape := ⟨2, ![32768, 1024]⟩
abbrev S1024 : Shape := ⟨1, ![1024]⟩
abbrev S1024x5120 : Shape := ⟨2, ![1024, 5120]⟩
abbrev S1024x128 : Shape := ⟨2, ![1024, 128]⟩
abbrev S8x64 : Shape := ⟨2, ![8, 64]⟩
abbrev S_ : Shape := ⟨0, ![]⟩
abbrev S1024x1024 : Shape := ⟨2, ![1024, 1024]⟩

class Facts : Prop where
  bcast_S_S1024 : S_.BroadcastsInDim S1024 (![] : Fin 0 → Fin S1024.rank)
  slices_S1024x5120_S1024x1024_0_0 : S1024x5120.Slices ![0, 0] S1024x1024
  bcast_S_S1024x1024 : S_.BroadcastsInDim S1024x1024 (![] : Fin 0 → Fin S1024x1024.rank)

variable [Facts]

def fn {F : FTy → Type} [FloatOps F] (main_arg0 : FVec F S32768x1024 .f32) (main_arg1 : FVec F S1024 .f32) (main_arg2 : FVec F S1024x5120 .f32) (main_arg3 : FVec F S1024x128 .f32) (main_arg4 : FVec F S8x64 .f32) (main_arg5 : FVec F S8x64 .f32) : IVec S1024 1 × IVec S1024x1024 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x1024 .f32 := (extractStridedSlice S1024x1024 ![0, 0] · slices_S1024x5120_S1024x1024_0_0) main_arg2
  let main_v4 : FVec F S1024x1024 .f32 := Host.absf main_v3
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  (main_v2, main_v6)
-- ==== Kernel.lean ====
abbrev S16x2048x5120 : Shape := ⟨3, ![16, 2048, 5120]⟩
abbrev S257x8 : Shape := ⟨2, ![257, 8]⟩
abbrev S256 : Shape := ⟨1, ![256]⟩
abbrev S256x1 : Shape := ⟨2, ![256, 1]⟩
abbrev S768 : Shape := ⟨1, ![768]⟩
abbrev S1x768 : Shape := ⟨2, ![1, 768]⟩
abbrev S_ : Shape := ⟨0, ![]⟩
abbrev S256x768 : Shape := ⟨2, ![256, 768]⟩
abbrev S256x768x1 : Shape := ⟨3, ![256, 768, 1]⟩
abbrev S256x768x8 : Shape := ⟨3, ![256, 768, 8]⟩
abbrev S8x256x768 : Shape := ⟨3, ![8, 256, 768]⟩
abbrev S1x256x768 : Shape := ⟨3, ![1, 256, 768]⟩
abbrev S16x2048x512 : Shape := ⟨3, ![16, 2048, 512]⟩
abbrev S1x256x512 : Shape := ⟨3, ![1, 256, 512]⟩
abbrev S1x256x64 : Shape := ⟨3, ![1, 256, 64]⟩
abbrev S256x64 : Shape := ⟨2, ![256, 64]⟩
abbrev S256x256 : Shape := ⟨2, ![256, 256]⟩
abbrev S1x256x256 : Shape := ⟨3, ![1, 256, 256]⟩

abbrev nBuf : Space → Nat
  | .hbm => 86
  | .vmem => 17
  | .smem => 0
  | _ => 0

abbrev bufTy : (tb : Table) → Fin (tcTables nBuf tb) → BufTy
  | .hbm, ⟨0, _⟩ => ⟨S16x2048x5120, .bf16⟩
  | .hbm, ⟨1, _⟩ => ⟨S257x8, .f32⟩
  | .hbm, ⟨2, _⟩ => ⟨S256, .i32⟩
  | .hbm, ⟨3, _⟩ => ⟨S256x1, .i32⟩
  | .hbm, ⟨4, _⟩ => ⟨S768, .i32⟩
  | .hbm, ⟨5, _⟩ => ⟨S1x768, .i32⟩
  | .hbm, ⟨6, _⟩ => ⟨S_, .i32⟩
  | .hbm, ⟨7, _⟩ => ⟨S256x1, .i32⟩
  | .hbm, ⟨8, _⟩ => ⟨S256x1, .i32⟩
  | .hbm, ⟨9, _⟩ => ⟨S256x768, .i32⟩
  | .hbm, ⟨10, _⟩ => ⟨S256x768, .i32⟩
  | .hbm, ⟨11, _⟩ => ⟨S256x768, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S256x768, .i32⟩
  | .hbm, ⟨16, _⟩ => ⟨S256x768, .i32⟩
  | .hbm, ⟨17, _⟩ => ⟨S_, .i32⟩
  | .hbm, ⟨18, _⟩ => ⟨S256x768, .i32⟩
  | .hbm, ⟨19, _⟩ => ⟨S256x768, .i32⟩
  | .hbm, ⟨20, _⟩ => ⟨S_, .i32⟩
  | .hbm, ⟨21, _⟩ => ⟨S256x768, .i32⟩
  | .hbm, ⟨22, _⟩ => ⟨S256x768, .i32⟩
  | .hbm, ⟨23, _⟩ => ⟨S_, .i32⟩
  | .hbm, ⟨24, _⟩ => ⟨S256x768, .i32⟩
  | .hbm, ⟨25, _⟩ => ⟨S256x768, .i1⟩
  | .hbm, ⟨26, _⟩ => ⟨S_, .i32⟩
  | .hbm, ⟨27, _⟩ => ⟨S256x768, .i32⟩
  | .hbm, ⟨28, _⟩ => ⟨S256x768, .i32⟩
  | .hbm, ⟨29, _⟩ => ⟨S256x768, .i32⟩
  | .hbm, ⟨30, _⟩ => ⟨S256x768x1, .i32⟩
  | .hbm, ⟨31, _⟩ => ⟨S256x768x8, .f32⟩
  | .hbm, ⟨32, _⟩ => ⟨S8x256x768, .f32⟩
  | .hbm, ⟨33, _⟩ => ⟨S_, .i32⟩
  | .hbm, ⟨34, _⟩ => ⟨S_, .i32⟩
  | .hbm, ⟨35, _⟩ => ⟨S256x1, .i32⟩
  | .hbm, ⟨36, _⟩ => ⟨S256x1, .i32⟩
  | .hbm, ⟨37, _⟩ => ⟨S256x1, .i32⟩
  | .hbm, ⟨38, _⟩ => ⟨S_, .i32⟩
  | .hbm, ⟨39, _⟩ => ⟨S256x1, .i32⟩
  | .hbm, ⟨40, _⟩ => ⟨S256x1, .i1⟩
  | .hbm, ⟨41, _⟩ => ⟨S256x1, .i32⟩
  | .hbm, ⟨42, _⟩ => ⟨S256x1, .i32⟩
  | .hbm, ⟨43, _⟩ => ⟨S_, .i32⟩
  | .hbm, ⟨44, _⟩ => ⟨S256x1, .i32⟩
  | .hbm, ⟨45, _⟩ => ⟨S256x1, .i1⟩
  | .hbm, ⟨46, _⟩ => ⟨S256x1, .i1⟩
  | .hbm, ⟨47, _⟩ => ⟨S_, .i32⟩
  | .hbm, ⟨48, _⟩ => ⟨S256x1, .i32⟩
  | .hbm, ⟨49, _⟩ => ⟨S256x1, .i32⟩
  | .hbm, ⟨50, _⟩ => ⟨S256x1, .i32⟩
  | .hbm, ⟨51, _⟩ => ⟨S_, .i32⟩
  | .hbm, ⟨52, _⟩ => ⟨S_, .i32⟩
  | .hbm, ⟨53, _⟩ => ⟨S1x768, .i32⟩
  | .hbm, ⟨54, _⟩ => ⟨S1x768, .i32⟩
  | .hbm, ⟨55, _⟩ => ⟨S1x768, .i32⟩
  | .hbm, ⟨56, _⟩ => ⟨S_, .i32⟩
  | .hbm, ⟨57, _⟩ => ⟨S1x768, .i32⟩
  | .hbm, ⟨58, _⟩ => ⟨S1x768, .i1⟩
  | .hbm, ⟨59, _⟩ => ⟨S1x768, .i32⟩
  | .hbm, ⟨60, _⟩ => ⟨S1x768, .i32⟩
  | .hbm, ⟨61, _⟩ => ⟨S_, .i32⟩
  | .hbm, ⟨62, _⟩ => ⟨S1x768, .i32⟩
  | .hbm, ⟨63, _⟩ => ⟨S1x768, .i1⟩
  | .hbm, ⟨64, _⟩ => ⟨S1x768, .i1⟩
  | .hbm, ⟨65, _⟩ => ⟨S_, .i32⟩
  | .hbm, ⟨66, _⟩ => ⟨S1x768, .i32⟩
  | .hbm, ⟨67, _⟩ => ⟨S1x768, .i32⟩
  | .hbm, ⟨68, _⟩ => ⟨S1x768, .i32⟩
  | .hbm, ⟨69, _⟩ => ⟨S256x768, .i32⟩
  | .hbm, ⟨70, _⟩ => ⟨S256x768, .i32⟩
  | .hbm, ⟨71, _⟩ => ⟨S256x768, .i1⟩
  | .hbm, ⟨72, _⟩ => ⟨S_, .i32⟩
  | .hbm, ⟨73, _⟩ => ⟨S256x1, .i32⟩
  | .hbm, ⟨74, _⟩ => ⟨S256x1, .i32⟩
  | .hbm, ⟨75, _⟩ => ⟨S256x768, .i32⟩
  | .hbm, ⟨76, _⟩ => ⟨S256x768, .i32⟩
  | .hbm, ⟨77, _⟩ => ⟨S256x768, .i1⟩
  | .hbm, ⟨78, _⟩ => ⟨S256x768, .i1⟩
  | .hbm, ⟨79, _⟩ => ⟨S1x256x768, .i1⟩
  | .hbm, ⟨80, _⟩ => ⟨S_, .f32⟩
  | .hbm, ⟨81, _⟩ => ⟨S_, .f32⟩
  | .hbm, ⟨82, _⟩ => ⟨S8x256x768, .i1⟩
  | .hbm, ⟨83, _⟩ => ⟨S8x256x768, .f32⟩
  | .hbm, ⟨84, _⟩ => ⟨S8x256x768, .f32⟩
  | .hbm, ⟨85, _⟩ => ⟨S16x2048x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S8x256x768, .f32⟩
  | .local _ .vmem, ⟨15, _⟩ => ⟨S1x256x512, .bf16⟩
  | .local _ .vmem, ⟨16, _⟩ => ⟨S1x256x512, .bf16⟩
  | _, _ => ⟨S16x2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_c_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_5 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v20 : Ref sig .tc := ⟨.hbm, 50, rfl⟩
abbrev main_c_6 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_c : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_c_0 : Ref sig .tc := ⟨.hbm, 65, rfl⟩
abbrev main_call2_v12 : Ref sig .tc := ⟨.hbm, 66, rfl⟩
abbrev main_call2_v13 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_c_7 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_v32 : Ref sig .tc := ⟨.hbm, 84, rfl⟩
abbrev main_v33 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c1_i32 : BitVec 32 := 1#32
  let c0_i32_0 : BitVec 32 := 0#32
  ![arg0.toNat, v1.toNat, c1_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c1_i32_0 : BitVec 32 := 1#32
  let c0_i32_1 : BitVec 32 := 0#32
  ![arg0.toNat, v1.toNat, c1_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c1_i32 : BitVec 32 := 1#32
  let c0_i32_1 : BitVec 32 := 0#32
  ![arg0.toNat, v1.toNat, c1_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c2_i32_0 : BitVec 32 := 2#32
  let c0_i32_1 : BitVec 32 := 0#32
  ![arg0.toNat, v1.toNat, c2_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c2_i32 : BitVec 32 := 2#32
  let c0_i32_0 : BitVec 32 := 0#32
  ![arg0.toNat, v1.toNat, c2_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c2_i32 : BitVec 32 := 2#32
  let c0_i32_1 : BitVec 32 := 0#32
  ![arg0.toNat, v1.toNat, c2_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x256x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16x2048x5120 : Shape := ⟨3, ![16, 2048, 5120]⟩
abbrev S257x8 : Shape := ⟨2, ![257, 8]⟩
abbrev S16x2048x512 : Shape := ⟨3, ![16, 2048, 512]⟩
abbrev S16x2048x8x64 : Shape := ⟨4, ![16, 2048, 8, 64]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S2048x2048x1 : Shape := ⟨3, ![2048, 2048, 1]⟩
abbrev S2048x2048x8 : Shape := ⟨3, ![2048, 2048, 8]⟩
abbrev S8x2048x2048 : Shape := ⟨3, ![8, 2048, 2048]⟩
abbrev S16x8x2048x2048 : Shape := ⟨4, ![16, 8, 2048, 2048]⟩
abbrev S1x8x2048x2048 : Shape := ⟨4, ![1, 8, 2048, 2048]⟩
abbrev S1x1x2048x2048 : Shape := ⟨4, ![1, 1, 2048, 2048]⟩
abbrev S16x8x2048 : Shape := ⟨3, ![16, 8, 2048]⟩
abbrev S16x8x2048x1 : Shape := ⟨4, ![16, 8, 2048, 1]⟩
abbrev S16x8x64x2048 : Shape := ⟨4, ![16, 8, 64, 2048]⟩

abbrev nBuf : Space → Nat
  | .hbm => 113
  | .vmem => 0
  | .smem => 0
  | _ => 0

abbrev bufTy : (tb : Table) → Fin (tcTables nBuf tb) → BufTy
  | .hbm, ⟨0, _⟩ => ⟨S16x2048x5120, .bf16⟩
  | .hbm, ⟨1, _⟩ => ⟨S257x8, .f32⟩
  | .hbm, ⟨2, _⟩ => ⟨S16x2048x512, .bf16⟩
  | .hbm, ⟨3, _⟩ => ⟨S16x2048x512, .f32⟩
  | .hbm, ⟨4, _⟩ => ⟨S16x2048x8x64, .f32⟩
  | .hbm, ⟨5, _⟩ => ⟨S16x2048x512, .bf16⟩
  | .hbm, ⟨6, _⟩ => ⟨S16x2048x512, .f32⟩
  | .hbm, ⟨7, _⟩ => ⟨S16x2048x8x64, .f32⟩
  | .hbm, ⟨8, _⟩ => ⟨S16x2048x512, .bf16⟩
  | .hbm, ⟨9, _⟩ => ⟨S16x2048x512, .f32⟩
  | .hbm, ⟨10, _⟩ => ⟨S16x2048x8x64, .f32⟩
  | .hbm, ⟨11, _⟩ => ⟨S2048, .i32⟩
  | .hbm, ⟨12, _⟩ => ⟨S2048x1, .i32⟩
  | .hbm, ⟨13, _⟩ => ⟨S2048, .i32⟩
  | .hbm, ⟨14, _⟩ => ⟨S1x2048, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2048x2048, .i32⟩
  | .hbm, ⟨22, _⟩ => ⟨S2048x2048, .i32⟩
  | .hbm, ⟨23, _⟩ => ⟨S_, .i32⟩
  | .hbm, ⟨24, _⟩ => ⟨S2048x2048, .i32⟩
  | .hbm, ⟨25, _⟩ => ⟨S2048x2048, .i32⟩
  | .hbm, ⟨26, _⟩ => ⟨S_, .i32⟩
  | .hbm, ⟨27, _⟩ => ⟨S2048x2048, .i32⟩
  | .hbm, ⟨28, _⟩ => ⟨S2048x2048, .i32⟩
  | .hbm, ⟨29, _⟩ => ⟨S_, .i32⟩
  | .hbm, ⟨30, _⟩ => ⟨S2048x2048, .i32⟩
  | .hbm, ⟨31, _⟩ => ⟨S2048x2048, .i1⟩
  | .hbm, ⟨32, _⟩ => ⟨S_, .i32⟩
  | .hbm, ⟨33, _⟩ => ⟨S2048x2048, .i32⟩
  | .hbm, ⟨34, _⟩ => ⟨S2048x2048, .i32⟩
  | .hbm, ⟨35, _⟩ => ⟨S2048x2048, .i32⟩
  | .hbm, ⟨36, _⟩ => ⟨S2048x2048x1, .i32⟩
  | .hbm, ⟨37, _⟩ => ⟨S2048x2048x8, .f32⟩
  | .hbm, ⟨38, _⟩ => ⟨S8x2048x2048, .f32⟩
  | .hbm, ⟨39, _⟩ => ⟨S16x8x2048x2048, .f32⟩
  | .hbm, ⟨40, _⟩ => ⟨S1x8x2048x2048, .f32⟩
  | .hbm, ⟨41, _⟩ => ⟨S16x8x2048x2048, .f32⟩
  | .hbm, ⟨42, _⟩ => ⟨S16x8x2048x2048, .f32⟩
  | .hbm, ⟨43, _⟩ => ⟨S_, .i32⟩
  | .hbm, ⟨44, _⟩ => ⟨S_, .i32⟩
  | .hbm, ⟨45, _⟩ => ⟨S2048x1, .i32⟩
  | .hbm, ⟨46, _⟩ => ⟨S2048x1, .i32⟩
  | .hbm, ⟨47, _⟩ => ⟨S2048x1, .i32⟩
  | .hbm, ⟨48, _⟩ => ⟨S_, .i32⟩
  | .hbm, ⟨49, _⟩ => ⟨S2048x1, .i32⟩
  | .hbm, ⟨50, _⟩ => ⟨S2048x1, .i1⟩
  | .hbm, ⟨51, _⟩ => ⟨S2048x1, .i32⟩
  | .hbm, ⟨52, _⟩ => ⟨S2048x1, .i32⟩
  | .hbm, ⟨53, _⟩ => ⟨S_, .i32⟩
  | .hbm, ⟨54, _⟩ => ⟨S2048x1, .i32⟩
  | .hbm, ⟨55, _⟩ => ⟨S2048x1, .i1⟩
  | .hbm, ⟨56, _⟩ => ⟨S2048x1, .i1⟩
  | .hbm, ⟨57, _⟩ => ⟨S_, .i32⟩
  | .hbm, ⟨58, _⟩ => ⟨S2048x1, .i32⟩
  | .hbm, ⟨59, _⟩ => ⟨S2048x1, .i32⟩
  | .hbm, ⟨60, _⟩ => ⟨S2048x1, .i32⟩
  | .hbm, ⟨61, _⟩ => ⟨S_, .i32⟩
  | .hbm, ⟨62, _⟩ => ⟨S_, .i32⟩
  | .hbm, ⟨63, _⟩ => ⟨S1x2048, .i32⟩
  | .hbm, ⟨64, _⟩ => ⟨S1x2048, .i32⟩
  | .hbm, ⟨65, _⟩ => ⟨S1x2048, .i32⟩
  | .hbm, ⟨66, _⟩ => ⟨S_, .i32⟩
  | .hbm, ⟨67, _⟩ => ⟨S1x2048, .i32⟩
  | .hbm, ⟨68, _⟩ => ⟨S1x2048, .i1⟩
  | .hbm, ⟨69, _⟩ => ⟨S1x2048, .i32⟩
  | .hbm, ⟨70, _⟩ => ⟨S1x2048, .i32⟩
  | .hbm, ⟨71, _⟩ => ⟨S_, .i32⟩
  | .hbm, ⟨72, _⟩ => ⟨S1x2048, .i32⟩
  | .hbm, ⟨73, _⟩ => ⟨S1x2048, .i1⟩
  | .hbm, ⟨74, _⟩ => ⟨S1x2048, .i1⟩
  | .hbm, ⟨75, _⟩ => ⟨S_, .i32⟩
  | .hbm, ⟨76, _⟩ => ⟨S1x2048, .i32⟩
  | .hbm, ⟨77, _⟩ => ⟨S1x2048, .i32⟩
  | .hbm, ⟨78, _⟩ => ⟨S1x2048, .i32⟩
  | .hbm, ⟨79, _⟩ => ⟨S2048x2048, .i32⟩
  | .hbm, ⟨80, _⟩ => ⟨S2048x2048, .i32⟩
  | .hbm, ⟨81, _⟩ => ⟨S2048x2048, .i1⟩
  | .hbm, ⟨82, _⟩ => ⟨S_, .i32⟩
  | .hbm, ⟨83, _⟩ => ⟨S2048x1, .i32⟩
  | .hbm, ⟨84, _⟩ => ⟨S2048x1, .i32⟩
  | .hbm, ⟨85, _⟩ => ⟨S2048x2048, .i32⟩
  | .hbm, ⟨86, _⟩ => ⟨S2048x2048, .i32⟩
  | .hbm, ⟨87, _⟩ => ⟨S2048x2048, .i1⟩
  | .hbm, ⟨88, _⟩ => ⟨S2048x2048, .i1⟩
  | .hbm, ⟨89, _⟩ => ⟨S1x1x2048x2048, .i1⟩
  | .hbm, ⟨90, _⟩ => ⟨S_, .f32⟩
  | .hbm, ⟨91, _⟩ => ⟨S_, .f32⟩
  | .hbm, ⟨92, _⟩ => ⟨S16x8x2048x2048, .i1⟩
  | .hbm, ⟨93, _⟩ => ⟨S16x8x2048x2048, .f32⟩
  | .hbm, ⟨94, _⟩ => ⟨S16x8x2048x2048, .f32⟩
  | .hbm, ⟨95, _⟩ => ⟨S_, .f32⟩
  | .hbm, ⟨96, _⟩ => ⟨S16x8x2048, .f32⟩
  | .hbm, ⟨97, _⟩ => ⟨S_, .f32⟩
  | .hbm, ⟨98, _⟩ => ⟨S16x8x2048, .f32⟩
  | .hbm, ⟨99, _⟩ => ⟨S16x8x2048, .f32⟩
  | .hbm, ⟨100, _⟩ => ⟨S16x8x2048x1, .f32⟩
  | .hbm, ⟨101, _⟩ => ⟨S16x8x2048x2048, .f32⟩
  | .hbm, ⟨102, _⟩ => ⟨S16x8x2048x2048, .f32⟩
  | .hbm, ⟨103, _⟩ => ⟨S16x8x2048x2048, .f32⟩
  | .hbm, ⟨104, _⟩ => ⟨S_, .f32⟩
  | .hbm, ⟨105, _⟩ => ⟨S16x8x2048, .f32⟩
  | .hbm, ⟨106, _⟩ => ⟨S16x8x2048x1, .f32⟩
  | .hbm, ⟨107, _⟩ => ⟨S16x8x2048x2048, .f32⟩
  | .hbm, ⟨108, _⟩ => ⟨S16x8x2048x2048, .f32⟩
  | .hbm, ⟨109, _⟩ => ⟨S16x8x64x2048, .f32⟩
  | .hbm, ⟨110, _⟩ => ⟨S16x2048x8x64, .f32⟩
  | .hbm, ⟨111, _⟩ => ⟨S16x2048x512, .f32⟩
  | .hbm, ⟨112, _⟩ => ⟨S16x2048x512, .bf16⟩
  | _, _ => ⟨S16x2048x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_c : Ref sig .tc := ⟨.hbm, 18, rfl⟩
abbrev main_c_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_c : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_0 : Ref sig .tc := ⟨.hbm, 57, rfl⟩
abbrev main_call1_v12 : Ref sig .tc := ⟨.hbm, 58, rfl⟩
abbrev main_call1_v13 : Ref sig .tc := ⟨.hbm, 59, rfl⟩
abbrev main_v31 : Ref sig .tc := ⟨.hbm, 60, rfl⟩
abbrev main_c_5 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_c : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_0 : Ref sig .tc := ⟨.hbm, 75, rfl⟩
abbrev main_call2_v12 : Ref sig .tc := ⟨.hbm, 76, rfl⟩
abbrev main_call2_v13 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_c_6 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_cst : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_v43 : Ref sig .tc := ⟨.hbm, 94, rfl⟩
abbrev main_cst_7 : Ref sig .tc := ⟨.hbm, 95, rfl⟩
abbrev main_v44 : Ref sig .tc := ⟨.hbm, 96, rfl⟩
abbrev main_cst_8 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_cst_9 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩

abbrev nD : Nat := 1
abbrev τ : Topo := Topo.v7x

variable {F : FTy → Type} [FloatOps F]
-- ==== Moe.lean ====
abbrev S32768x1024 : Shape := ⟨2, ![32768, 1024]⟩
abbrev S32768x128 : Shape := ⟨2, ![32768, 128]⟩
abbrev S32x1024x256 : Shape := ⟨3, ![32, 1024, 256]⟩
abbrev S32x256x1024 : Shape := ⟨3, ![32, 256, 1024]⟩
abbrev S512x1024 : Shape := ⟨2, ![512, 1024]⟩
abbrev S512x128 : Shape := ⟨2, ![512, 128]⟩
abbrev S1x1024x256 : Shape := ⟨3, ![1, 1024, 256]⟩
abbrev S1x256x1024 : Shape := ⟨3, ![1, 256, 1024]⟩
abbrev S1024x256 : Shape := ⟨2, ![1024, 256]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 10
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x128, .f32⟩
  | .hbm, ⟨3, _⟩ => ⟨S32x1024x256, .f32⟩
  | .hbm, ⟨4, _⟩ => ⟨S32x1024x256, .f32⟩
  | .hbm, ⟨5, _⟩ => ⟨S32x256x1024, .f32⟩
  | .hbm, ⟨6, _⟩ => ⟨S32x1024x256, .bf16⟩
  | .hbm, ⟨7, _⟩ => ⟨S32x1024x256, .bf16⟩
  | .hbm, ⟨8, _⟩ => ⟨S32x256x1024, .bf16⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x128, .f32⟩
  | .local _ .vmem, ⟨5, _⟩ => ⟨S512x128, .f32⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x256x1024, .bf16⟩
  | .local _ .vmem, ⟨11, _⟩ => ⟨S1x256x1024, .bf16⟩
  | .local _ .vmem, ⟨12, _⟩ => ⟨S512x1024, .f32⟩
  | .local _ .vmem, ⟨13, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![64, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== MoeRefIdeal.lean ====
abbrev S32768x1024 : Shape := ⟨2, ![32768, 1024]⟩
abbrev S32768x128 : Shape := ⟨2, ![32768, 128]⟩
abbrev S32x1024x256 : Shape := ⟨3, ![32, 1024, 256]⟩
abbrev S32x256x1024 : Shape := ⟨3, ![32, 256, 1024]⟩
abbrev S32x256x32768 : Shape := ⟨3, ![32, 256, 32768]⟩
abbrev S32x32768x256 : Shape := ⟨3, ![32, 32768, 256]⟩
abbrev S_ : Shape := ⟨0, ![]⟩
abbrev S32x32768x1024 : Shape := ⟨3, ![32, 32768, 1024]⟩
abbrev S128x32768 : Shape := ⟨2, ![128, 32768]⟩
abbrev S32x32768 : Shape := ⟨2, ![32, 32768]⟩
abbrev S32x32768x1 : Shape := ⟨3, ![32, 32768, 1]⟩

abbrev nBuf : Space → Nat
  | .hbm => 30
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x128, .f32⟩
  | .hbm, ⟨3, _⟩ => ⟨S32x1024x256, .f32⟩
  | .hbm, ⟨4, _⟩ => ⟨S32x1024x256, .f32⟩
  | .hbm, ⟨5, _⟩ => ⟨S32x256x1024, .f32⟩
  | .hbm, ⟨6, _⟩ => ⟨S32768x1024, .f32⟩
  | .hbm, ⟨7, _⟩ => ⟨S32x256x32768, .f32⟩
  | .hbm, ⟨8, _⟩ => ⟨S32x32768x256, .f32⟩
  | .hbm, ⟨9, _⟩ => ⟨S32x32768x256, .f32⟩
  | .hbm, ⟨10, _⟩ => ⟨S32x32768x256, .f32⟩
  | .hbm, ⟨11, _⟩ => ⟨S_, .f32⟩
  | .hbm, ⟨12, _⟩ => ⟨S32x32768x256, .f32⟩
  | .hbm, ⟨13, _⟩ => ⟨S32x32768x256, .f32⟩
  | .hbm, ⟨14, _⟩ => ⟨S_, .f32⟩
  | .hbm, ⟨15, _⟩ => ⟨S32x32768x256, .f32⟩
  | .hbm, ⟨16, _⟩ => ⟨S32x32768x256, .f32⟩
  | .hbm, ⟨17, _⟩ => ⟨S32x32768x256, .f32⟩
  | .hbm, ⟨18, _⟩ => ⟨S32x256x32768, .f32⟩
  | .hbm, ⟨19, _⟩ => ⟨S32x32768x256, .f32⟩
  | .hbm, ⟨20, _⟩ => ⟨S32x32768x256, .f32⟩
  | .hbm, ⟨21, _⟩ => ⟨S32x32768x1024, .f32⟩
  | .hbm, ⟨22, _⟩ => ⟨S128x32768, .f32⟩
  | .hbm, ⟨23, _⟩ => ⟨S32x32768, .f32⟩
  | .hbm, ⟨24, _⟩ => ⟨S32x32768x1, .f32⟩
  | .hbm, ⟨25, _⟩ => ⟨S32x32768x1024, .f32⟩
  | .hbm, ⟨26, _⟩ => ⟨S32x32768x1024, .f32⟩
  | .hbm, ⟨27, _⟩ => ⟨S_, .f32⟩
  | .hbm, ⟨28, _⟩ => ⟨S32768x1024, .f32⟩
  | .hbm, ⟨29, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩

abbrev nD : Nat := 1
abbrev τ : Topo := Topo.v7x

variable {F : FTy → Type} [FloatOps F]
-- ==== Inproj.lean ====
abbrev S32768x1024 : Shape := ⟨2, ![32768, 1024]⟩
abbrev S1024 : Shape := ⟨1, ![1024]⟩
abbrev S1024x5120 : Shape := ⟨2, ![1024, 5120]⟩
abbrev S1024x128 : Shape := ⟨2, ![1024, 128]⟩
abbrev S8x64 : Shape := ⟨2, ![8, 64]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S1x1024 : Shape := ⟨2, ![1, 1024]⟩
abbrev S32768x5120 : Shape := ⟨2, ![32768, 5120]⟩
abbrev S32768x128 : Shape := ⟨2, ![32768, 128]⟩
abbrev S512x1024 : Shape := ⟨2, ![512, 1024]⟩
abbrev S512x5120 : Shape := ⟨2, ![512, 5120]⟩
abbrev S512x128 : Shape := ⟨2, ![512, 128]⟩
abbrev S1024x512 : Shape := ⟨2, ![1024, 512]⟩

abbrev nBuf : Space → Nat
  | .hbm => 38
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5120, .f32⟩
  | .hbm, ⟨3, _⟩ => ⟨S1024x128, .f32⟩
  | .hbm, ⟨4, _⟩ => ⟨S8x64, .f32⟩
  | .hbm, ⟨5, _⟩ => ⟨S8x64, .f32⟩
  | .hbm, ⟨6, _⟩ => ⟨S512, .i32⟩
  | .hbm, ⟨7, _⟩ => ⟨S_, .i32⟩
  | .hbm, ⟨8, _⟩ => ⟨S_, .i32⟩
  | .hbm, ⟨9, _⟩ => ⟨S512, .i32⟩
  | .hbm, ⟨10, _⟩ => ⟨S512, .i32⟩
  | .hbm, ⟨11, _⟩ => ⟨S512, .i32⟩
  | .hbm, ⟨12, _⟩ => ⟨S_, .i32⟩
  | .hbm, ⟨13, _⟩ => ⟨S512, .i32⟩
  | .hbm, ⟨14, _⟩ => ⟨S512, .i1⟩
  | .hbm, ⟨15, _⟩ => ⟨S512, .i32⟩
  | .hbm, ⟨16, _⟩ => ⟨S512, .i32⟩
  | .hbm, ⟨17, _⟩ => ⟨S_, .i32⟩
  | .hbm, ⟨18, _⟩ => ⟨S512, .i32⟩
  | .hbm, ⟨19, _⟩ => ⟨S512, .i1⟩
  | .hbm, ⟨20, _⟩ => ⟨S512, .i1⟩
  | .hbm, ⟨21, _⟩ => ⟨S_, .i32⟩
  | .hbm, ⟨22, _⟩ => ⟨S512, .i32⟩
  | .hbm, ⟨23, _⟩ => ⟨S512, .i32⟩
  | .hbm, ⟨24, _⟩ => ⟨S512, .i32⟩
  | .hbm, ⟨25, _⟩ => ⟨S512x1, .i32⟩
  | .hbm, ⟨26, _⟩ => ⟨S1x512, .i32⟩
  | .hbm, ⟨27, _⟩ => ⟨S512x512, .i32⟩
  | .hbm, ⟨28, _⟩ => ⟨S512x512, .i32⟩
  | .hbm, ⟨29, _⟩ => ⟨S512x512, .i1⟩
  | .hbm, ⟨30, _⟩ => ⟨S512x512, .bf16⟩
  | .hbm, ⟨31, _⟩ => ⟨S1x1024, .f32⟩
  | .hbm, ⟨32, _⟩ => ⟨S1024x5120, .bf16⟩
  | .hbm, ⟨33, _⟩ => ⟨S1024x128, .bf16⟩
  | .hbm, ⟨34, _⟩ => ⟨S1x512, .f32⟩
  | .hbm, ⟨35, _⟩ => ⟨S1x512, .f32⟩
  | .hbm, ⟨36, _⟩ => ⟨S32768x5120, .bf16⟩
  | .hbm, ⟨37, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5120, .bf16⟩
  | .local _ .vmem, ⟨4, _⟩ => ⟨S1024x128, .bf16⟩
  | .local _ .vmem, ⟨5, _⟩ => ⟨S1x512, .f32⟩
  | .local _ .vmem, ⟨6, _⟩ => ⟨S1x512, .f32⟩
  | .local _ .vmem, ⟨7, _⟩ => ⟨S512x512, .bf16⟩
  | .local _ .vmem, ⟨8, _⟩ => ⟨S512x5120, .bf16⟩
  | .local _ .vmem, ⟨9, _⟩ => ⟨S512x5120, .bf16⟩
  | .local _ .vmem, ⟨10, _⟩ => ⟨S512x128, .f32⟩
  | .local _ .vmem, ⟨11, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13_0 : Ref sig .tc := ⟨.hbm, 36, rfl⟩
abbrev main_v13_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x5120 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InprojRefIdeal.lean ====
abbrev S32768x1024 : Shape := ⟨2, ![32768, 1024]⟩
abbrev S1024 : Shape := ⟨1, ![1024]⟩
abbrev S1024x5120 : Shape := ⟨2, ![1024, 5120]⟩
abbrev S1024x128 : Shape := ⟨2, ![1024, 128]⟩
abbrev S8x64 : Shape := ⟨2, ![8, 64]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5120 : Shape := ⟨2, ![32768, 5120]⟩
abbrev S32768x512 : Shape := ⟨2, ![32768, 512]⟩
abbrev S32768x8x64 : Shape := ⟨3, ![32768, 8, 64]⟩
abbrev S32768x8 : Shape := ⟨2, ![32768, 8]⟩
abbrev S32768x8x1 : Shape := ⟨3, ![32768, 8, 1]⟩
abbrev S1x8x64 : Shape := ⟨3, ![1, 8, 64]⟩
abbrev S32768x4096 : Shape := ⟨2, ![32768, 4096]⟩
abbrev S32768x128 : Shape := ⟨2, ![32768, 128]⟩

abbrev nBuf : Space → Nat
  | .hbm => 68
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5120, .f32⟩
  | .hbm, ⟨3, _⟩ => ⟨S1024x128, .f32⟩
  | .hbm, ⟨4, _⟩ => ⟨S8x64, .f32⟩
  | .hbm, ⟨5, _⟩ => ⟨S8x64, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S32768x5120, .f32⟩
  | .hbm, ⟨23, _⟩ => ⟨S32768x512, .f32⟩
  | .hbm, ⟨24, _⟩ => ⟨S32768x8x64, .f32⟩
  | .hbm, ⟨25, _⟩ => ⟨S32768x8x64, .f32⟩
  | .hbm, ⟨26, _⟩ => ⟨S_, .f32⟩
  | .hbm, ⟨27, _⟩ => ⟨S32768x8, .f32⟩
  | .hbm, ⟨28, _⟩ => ⟨S32768x8x1, .f32⟩
  | .hbm, ⟨29, _⟩ => ⟨S_, .f32⟩
  | .hbm, ⟨30, _⟩ => ⟨S32768x8x1, .f32⟩
  | .hbm, ⟨31, _⟩ => ⟨S32768x8x1, .f32⟩
  | .hbm, ⟨32, _⟩ => ⟨S_, .f32⟩
  | .hbm, ⟨33, _⟩ => ⟨S32768x8x1, .f32⟩
  | .hbm, ⟨34, _⟩ => ⟨S32768x8x1, .f32⟩
  | .hbm, ⟨35, _⟩ => ⟨S32768x8x1, .f32⟩
  | .hbm, ⟨36, _⟩ => ⟨S32768x8x64, .f32⟩
  | .hbm, ⟨37, _⟩ => ⟨S32768x8x64, .f32⟩
  | .hbm, ⟨38, _⟩ => ⟨S1x8x64, .f32⟩
  | .hbm, ⟨39, _⟩ => ⟨S32768x8x64, .f32⟩
  | .hbm, ⟨40, _⟩ => ⟨S32768x8x64, .f32⟩
  | .hbm, ⟨41, _⟩ => ⟨S_, .f32⟩
  | .hbm, ⟨42, _⟩ => ⟨S32768x8x64, .f32⟩
  | .hbm, ⟨43, _⟩ => ⟨S32768x8x64, .f32⟩
  | .hbm, ⟨44, _⟩ => ⟨S32768x512, .f32⟩
  | .hbm, ⟨45, _⟩ => ⟨S32768x8x64, .f32⟩
  | .hbm, ⟨46, _⟩ => ⟨S32768x8x64, .f32⟩
  | .hbm, ⟨47, _⟩ => ⟨S_, .f32⟩
  | .hbm, ⟨48, _⟩ => ⟨S32768x8, .f32⟩
  | .hbm, ⟨49, _⟩ => ⟨S32768x8x1, .f32⟩
  | .hbm, ⟨50, _⟩ => ⟨S_, .f32⟩
  | .hbm, ⟨51, _⟩ => ⟨S32768x8x1, .f32⟩
  | .hbm, ⟨52, _⟩ => ⟨S32768x8x1, .f32⟩
  | .hbm, ⟨53, _⟩ => ⟨S_, .f32⟩
  | .hbm, ⟨54, _⟩ => ⟨S32768x8x1, .f32⟩
  | .hbm, ⟨55, _⟩ => ⟨S32768x8x1, .f32⟩
  | .hbm, ⟨56, _⟩ => ⟨S32768x8x1, .f32⟩
  | .hbm, ⟨57, _⟩ => ⟨S32768x8x64, .f32⟩
  | .hbm, ⟨58, _⟩ => ⟨S32768x8x64, .f32⟩
  | .hbm, ⟨59, _⟩ => ⟨S1x8x64, .f32⟩
  | .hbm, ⟨60, _⟩ => ⟨S32768x8x64, .f32⟩
  | .hbm, ⟨61, _⟩ => ⟨S32768x8x64, .f32⟩
  | .hbm, ⟨62, _⟩ => ⟨S32768x512, .f32⟩
  | .hbm, ⟨63, _⟩ => ⟨S32768x512, .f32⟩
  | .hbm, ⟨64, _⟩ => ⟨S32768x4096, .f32⟩
  | .hbm, ⟨65, _⟩ => ⟨S32768x5120, .f32⟩
  | .hbm, ⟨66, _⟩ => ⟨S32768x5120, .bf16⟩
  | .hbm, ⟨67, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== Post.lean ====
abbrev S32768x1024 : Shape := ⟨2, ![32768, 1024]⟩
abbrev S32768x512 : Shape := ⟨2, ![32768, 512]⟩
abbrev S32768x5120 : Shape := ⟨2, ![32768, 5120]⟩
abbrev S512x1024 : Shape := ⟨2, ![512, 1024]⟩
abbrev S1024x1024 : Shape := ⟨2, ![1024, 1024]⟩
abbrev S1024 : Shape := ⟨1, ![1024]⟩
abbrev S1024x128 : Shape := ⟨2, ![1024, 128]⟩
abbrev S128 : Shape := ⟨1, ![128]⟩
abbrev S1x1024 : Shape := ⟨2, ![1, 1024]⟩
abbrev S1x128 : Shape := ⟨2, ![1, 128]⟩
abbrev S32768x128 : Shape := ⟨2, ![32768, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 18
  | .vmem => 22
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x5120, .bf16⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024x128, .f32⟩
  | .hbm, ⟨9, _⟩ => ⟨S128, .f32⟩
  | .hbm, ⟨10, _⟩ => ⟨S512x1024, .bf16⟩
  | .hbm, ⟨11, _⟩ => ⟨S512x1024, .bf16⟩
  | .hbm, ⟨12, _⟩ => ⟨S1024x1024, .bf16⟩
  | .hbm, ⟨13, _⟩ => ⟨S1x1024, .f32⟩
  | .hbm, ⟨14, _⟩ => ⟨S1x128, .f32⟩
  | .hbm, ⟨15, _⟩ => ⟨S32768x1024, .f32⟩
  | .hbm, ⟨16, _⟩ => ⟨S32768x1024, .bf16⟩
  | .hbm, ⟨17, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x128, .f32⟩
  | .local _ .vmem, ⟨15, _⟩ => ⟨S1x128, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x128, .f32⟩
  | .local _ .vmem, ⟨21, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== PostRefIdeal.lean ====
abbrev S32768x1024 : Shape := ⟨2, ![32768, 1024]⟩
abbrev S32768x512 : Shape := ⟨2, ![32768, 512]⟩
abbrev S32768x5120 : Shape := ⟨2, ![32768, 5120]⟩
abbrev S512x1024 : Shape := ⟨2, ![512, 1024]⟩
abbrev S1024x1024 : Shape := ⟨2, ![1024, 1024]⟩
abbrev S1024 : Shape := ⟨1, ![1024]⟩
abbrev S1024x128 : Shape := ⟨2, ![1024, 128]⟩
abbrev S128 : Shape := ⟨1, ![128]⟩
abbrev S32768x2048 : Shape := ⟨2, ![32768, 2048]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S32768x4 : Shape := ⟨2, ![32768, 4]⟩
abbrev S1x4 : Shape := ⟨2, ![1, 4]⟩
abbrev S32768x32 : Shape := ⟨2, ![32768, 32]⟩
abbrev S1x32 : Shape := ⟨2, ![1, 32]⟩
abbrev S32768x4x8 : Shape := ⟨3, ![32768, 4, 8]⟩
abbrev S4x1 : Shape := ⟨2, ![4, 1]⟩
abbrev S32768x1x1 : Shape := ⟨3, ![32768, 1, 1]⟩
abbrev S1x4x1 : Shape := ⟨3, ![1, 4, 1]⟩
abbrev S32768x4x1 : Shape := ⟨3, ![32768, 4, 1]⟩
abbrev S32768x8 : Shape := ⟨2, ![32768, 8]⟩
abbrev S32768x2 : Shape := ⟨2, ![32768, 2]⟩
abbrev S32768x2x1 : Shape := ⟨3, ![32768, 2, 1]⟩
abbrev S1x1x128 : Shape := ⟨3, ![1, 1, 128]⟩
abbrev S32768x2x128 : Shape := ⟨3, ![32768, 2, 128]⟩
abbrev S32768x128 : Shape := ⟨2, ![32768, 128]⟩

abbrev nBuf : Space → Nat
  | .hbm => 125
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x5120, .bf16⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024x128, .f32⟩
  | .hbm, ⟨9, _⟩ => ⟨S128, .f32⟩
  | .hbm, ⟨10, _⟩ => ⟨S32768x2048, .bf16⟩
  | .hbm, ⟨11, _⟩ => ⟨S32768x2048, .f32⟩
  | .hbm, ⟨12, _⟩ => ⟨S32768x2048, .f32⟩
  | .hbm, ⟨13, _⟩ => ⟨S32768x2048, .f32⟩
  | .hbm, ⟨14, _⟩ => ⟨S_, .f32⟩
  | .hbm, ⟨15, _⟩ => ⟨S32768x2048, .f32⟩
  | .hbm, ⟨16, _⟩ => ⟨S32768x2048, .f32⟩
  | .hbm, ⟨17, _⟩ => ⟨S_, .f32⟩
  | .hbm, ⟨18, _⟩ => ⟨S32768x2048, .f32⟩
  | .hbm, ⟨19, _⟩ => ⟨S32768x2048, .f32⟩
  | .hbm, ⟨20, _⟩ => ⟨S32768x1024, .f32⟩
  | .hbm, ⟨21, _⟩ => ⟨S32768x512, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S32768x512, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S32768x1, .f32⟩
  | .hbm, ⟨42, _⟩ => ⟨S32768x1024, .f32⟩
  | .hbm, ⟨43, _⟩ => ⟨S32768x1024, .f32⟩
  | .hbm, ⟨44, _⟩ => ⟨S1x1024, .f32⟩
  | .hbm, ⟨45, _⟩ => ⟨S32768x1024, .f32⟩
  | .hbm, ⟨46, _⟩ => ⟨S32768x1024, .f32⟩
  | .hbm, ⟨47, _⟩ => ⟨S32768x1024, .bf16⟩
  | .hbm, ⟨48, _⟩ => ⟨S1024x4, .f32⟩
  | .hbm, ⟨49, _⟩ => ⟨S4, .f32⟩
  | .hbm, ⟨50, _⟩ => ⟨S1024x32, .f32⟩
  | .hbm, ⟨51, _⟩ => ⟨S32, .f32⟩
  | .hbm, ⟨52, _⟩ => ⟨S32768x4, .f32⟩
  | .hbm, ⟨53, _⟩ => ⟨S1x4, .f32⟩
  | .hbm, ⟨54, _⟩ => ⟨S32768x4, .f32⟩
  | .hbm, ⟨55, _⟩ => ⟨S32768x4, .f32⟩
  | .hbm, ⟨56, _⟩ => ⟨S_, .f32⟩
  | .hbm, ⟨57, _⟩ => ⟨S32768, .f32⟩
  | .hbm, ⟨58, _⟩ => ⟨S_, .f32⟩
  | .hbm, ⟨59, _⟩ => ⟨S32768, .f32⟩
  | .hbm, ⟨60, _⟩ => ⟨S32768, .f32⟩
  | .hbm, ⟨61, _⟩ => ⟨S32768x1, .f32⟩
  | .hbm, ⟨62, _⟩ => ⟨S32768x4, .f32⟩
  | .hbm, ⟨63, _⟩ => ⟨S32768x4, .f32⟩
  | .hbm, ⟨64, _⟩ => ⟨S32768x4, .f32⟩
  | .hbm, ⟨65, _⟩ => ⟨S_, .f32⟩
  | .hbm, ⟨66, _⟩ => ⟨S32768, .f32⟩
  | .hbm, ⟨67, _⟩ => ⟨S32768x1, .f32⟩
  | .hbm, ⟨68, _⟩ => ⟨S32768x4, .f32⟩
  | .hbm, ⟨69, _⟩ => ⟨S32768x4, .f32⟩
  | .hbm, ⟨70, _⟩ => ⟨S32768x1, .f32⟩
  | .hbm, ⟨71, _⟩ => ⟨S32768x1, .i32⟩
  | .hbm, ⟨72, _⟩ => ⟨S32768x32, .f32⟩
  | .hbm, ⟨73, _⟩ => ⟨S1x32, .f32⟩
  | .hbm, ⟨74, _⟩ => ⟨S32768x32, .f32⟩
  | .hbm, ⟨75, _⟩ => ⟨S32768x32, .f32⟩
  | .hbm, ⟨76, _⟩ => ⟨S32768x4x8, .f32⟩
  | .hbm, ⟨77, _⟩ => ⟨S4, .i32⟩
  | .hbm, ⟨78, _⟩ => ⟨S4x1, .i32⟩
  | .hbm, ⟨79, _⟩ => ⟨S32768x1x1, .i32⟩
  | .hbm, ⟨80, _⟩ => ⟨S1x4x1, .i32⟩
  | .hbm, ⟨81, _⟩ => ⟨S32768x4x1, .i32⟩
  | .hbm, ⟨82, _⟩ => ⟨S32768x4x1, .i32⟩
  | .hbm, ⟨83, _⟩ => ⟨S32768x4x1, .i1⟩
  | .hbm, ⟨84, _⟩ => ⟨S_, .f32⟩
  | .hbm, ⟨85, _⟩ => ⟨S_, .f32⟩
  | .hbm, ⟨86, _⟩ => ⟨S32768x4x8, .i1⟩
  | .hbm, ⟨87, _⟩ => ⟨S32768x4x8, .f32⟩
  | .hbm, ⟨88, _⟩ => ⟨S32768x4x8, .f32⟩
  | .hbm, ⟨89, _⟩ => ⟨S_, .f32⟩
  | .hbm, ⟨90, _⟩ => ⟨S32768x8, .f32⟩
  | .hbm, ⟨91, _⟩ => ⟨S32768x2, .f32⟩
  | .hbm, ⟨92, _⟩ => ⟨S32768x2, .i32⟩
  | .hbm, ⟨93, _⟩ => ⟨S_, .f32⟩
  | .hbm, ⟨94, _⟩ => ⟨S32768, .f32⟩
  | .hbm, ⟨95, _⟩ => ⟨S_, .f32⟩
  | .hbm, ⟨96, _⟩ => ⟨S32768, .f32⟩
  | .hbm, ⟨97, _⟩ => ⟨S32768, .f32⟩
  | .hbm, ⟨98, _⟩ => ⟨S32768x1, .f32⟩
  | .hbm, ⟨99, _⟩ => ⟨S32768x2, .f32⟩
  | .hbm, ⟨100, _⟩ => ⟨S32768x2, .f32⟩
  | .hbm, ⟨101, _⟩ => ⟨S32768x2, .f32⟩
  | .hbm, ⟨102, _⟩ => ⟨S_, .f32⟩
  | .hbm, ⟨103, _⟩ => ⟨S32768, .f32⟩
  | .hbm, ⟨104, _⟩ => ⟨S32768x1, .f32⟩
  | .hbm, ⟨105, _⟩ => ⟨S32768x2, .f32⟩
  | .hbm, ⟨106, _⟩ => ⟨S32768x2, .f32⟩
  | .hbm, ⟨107, _⟩ => ⟨S32768x2, .f32⟩
  | .hbm, ⟨108, _⟩ => ⟨S32768x2, .f32⟩
  | .hbm, ⟨109, _⟩ => ⟨S_, .i32⟩
  | .hbm, ⟨110, _⟩ => ⟨S32768x1, .i32⟩
  | .hbm, ⟨111, _⟩ => ⟨S32768x1, .i32⟩
  | .hbm, ⟨112, _⟩ => ⟨S32768x2, .i32⟩
  | .hbm, ⟨113, _⟩ => ⟨S32768x2, .i32⟩
  | .hbm, ⟨114, _⟩ => ⟨S32768x2x1, .i32⟩
  | .hbm, ⟨115, _⟩ => ⟨S1x1x128, .i32⟩
  | .hbm, ⟨116, _⟩ => ⟨S32768x2x128, .i32⟩
  | .hbm, ⟨117, _⟩ => ⟨S32768x2x128, .i32⟩
  | .hbm, ⟨118, _⟩ => ⟨S32768x2x128, .i1⟩
  | .hbm, ⟨119, _⟩ => ⟨S32768x2x128, .f32⟩
  | .hbm, ⟨120, _⟩ => ⟨S32768x2x1, .f32⟩
  | .hbm, ⟨121, _⟩ => ⟨S32768x2x128, .f32⟩
  | .hbm, ⟨122, _⟩ => ⟨S32768x2x128, .f32⟩
  | .hbm, ⟨123, _⟩ => ⟨S_, .f32⟩
  | .hbm, ⟨124, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_values : Ref sig .tc := ⟨.hbm, 70, rfl⟩
abbrev main_indices : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_7 : Ref sig .tc := ⟨.hbm, 84, rfl⟩
abbrev main_call0_v0 : Ref sig .tc := ⟨.hbm, 85, rfl⟩
abbrev main_call0_v1 : Ref sig .tc := ⟨.hbm, 86, rfl⟩
abbrev main_call0_v2 : Ref sig .tc := ⟨.hbm, 87, rfl⟩
abbrev main_v64 : Ref sig .tc := ⟨.hbm, 88, rfl⟩
abbrev main_cst_8 : Ref sig .tc := ⟨.hbm, 89, rfl⟩
abbrev main_v65 : Ref sig .tc := ⟨.hbm, 90, rfl⟩
abbrev main_values_9 : Ref sig .tc := ⟨.hbm, 91, rfl⟩
abbrev main_indices_10 : Ref sig .tc := ⟨.hbm, 92, rfl⟩
abbrev main_cst_11 : Ref sig .tc := ⟨.hbm, 93, rfl⟩
abbrev main_v66 : Ref sig .tc := ⟨.hbm, 94, rfl⟩
abbrev main_cst_12 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_13 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_c : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_call1_v0 : Ref sig .tc := ⟨.hbm, 114, rfl⟩
abbrev main_call1_v1 : Ref sig .tc := ⟨.hbm, 115, rfl⟩
abbrev main_call1_v2 : Ref sig .tc := ⟨.hbm, 116, rfl⟩
abbrev main_call1_v3 : Ref sig .tc := ⟨.hbm, 117, rfl⟩
abbrev main_call1_v4 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_14 : Ref sig .tc := ⟨.hbm, 123, rfl⟩
abbrev main_v87 : Ref sig .tc := ⟨.hbm, 124, rfl⟩

abbrev nD : Nat := 1
abbrev τ : Topo := Topo.v7x

variable {F : FTy → Type} [FloatOps F]
-- ==== Proof.ExpertTerm.lean ====
/- The contribution of one expert to one entry of the layer's result. -/
module

public import Idealize.ShloMosaic.Lib.Pointwise

@[expose] public section

set_option maxRecDepth 16384

noncomputable section

namespace Cert.Experts

open Idealize.ShloMosaic

/-- The gate `g` times the down projection, along the column `wd`, of `silu (h · wg) * (h · wu)`. -/
def expert (h : Fin 1024 → EReal) (wg wu : Fin 1024 → Fin 256 → EReal) (wd : Fin 256 → EReal) (g : EReal) : EReal :=
  g * ∑ f : Fin 256, ((∑ k, h k * wg k f) * Ideal.logistic (∑ k, h k * wg k f) * ∑ k, h k * wu k f) * wd f

end Cert.Experts

end
-- ==== Proof.MoeExpert.lean ====
/- What one visit of the expert kernel adds to its block of rows, read at one row and one column. -/
module

public import proofs.«01_k».proof.Proof.Gen.MoeIdeal.Skeleton
public import proofs.«01_k».proof.Proof.ExpertTerm

@[expose] public section

set_option maxRecDepth 16384

noncomputable section

namespace Cert.MoeIdeal.Experts

open Cert.MoeIdeal Cert.MoeIdeal.Gen Idealize.ShloMosaic Idealize.ShloMosaic.TcCoe Idealize.SL.Sem
open Cert.Experts

/-- Summing the gates of a row with every lane but one set to zero leaves the gate of that lane. -/
theorem gate_lane (g : Fin 128 → EReal) (e : ℕ) (he : e < 32) :
    ∑ x : Fin 128, Scalar.select (IntOp.cmpi CmpIPredicate.eq (BitVec.ofNat 32 x.val) (BitVec.ofNat 32 e)) (g x) 0
      = g ⟨e, by omega⟩ := by
  rw [Finset.sum_eq_single (⟨e, by omega⟩ : Fin 128)]
  · simp [Scalar.select, IntOp.cmpi]
  · intro b _ hb
    have hne : ¬ (BitVec.ofNat 32 b.val = BitVec.ofNat 32 e) := by
      intro h
      have := congrArg BitVec.toNat h
      simp only [BitVec.toNat_ofNat] at this
      rw [Nat.mod_eq_of_lt (by omega), Nat.mod_eq_of_lt (by omega)] at this
      exact hb (Fin.ext this)
    simp only [Scalar.select, IntOp.cmpi, beq_eq_false_iff_ne.mpr hne]
    rfl
  · intro h; exact absurd (Finset.mem_univ _) h

/-- One visit of a block adds the contribution of the visit's expert to what the block held. -/
theorem pay_apply (i : grid0.Coords) (h : FVec Ideal S512x1024 .bf16) (wg wu : FVec Ideal S1x1024x256 .bf16)
    (wd : FVec Ideal S1x256x1024 .bf16) (g : FVec Ideal S512x128 .f32) (acc : FVec Ideal S512x1024 .f32)
    (r : Fin 512) (d : Fin 1024) (e : ℕ) (he : e < 32) (hi : (i 1 : ℕ) = e) :
    k0_pay1 (F := Ideal) i h wg wu wd g acc (ix2 r d) = acc (ix2 r d) + expert (fun k => h (ix2 r k))
      (fun k f => wg (ix3 0 k f)) (fun k f => wu (ix3 0 k f)) (fun f => wd (ix3 0 f d)) (g (ix2 r ⟨e, by omega⟩)) := by
  pointwise [k0_pay1]
  rw [hi, gate_lane (fun x => g (ix2 r x)) e he]
  rfl

end Cert.MoeIdeal.Experts

end
-- ==== Proof.MoeReference.lean ====
/- What the reference of the experts computes, read at one row and one column. -/
module

public import proofs.«01_k».proof.Proof.Gen.MoeRefIdeal.Run
public import proofs.«01_k».proof.Proof.ExpertTerm

@[expose] public section

set_option maxRecDepth 16384

noncomputable section

namespace Cert.MoeRefIdeal.Experts

open Cert.MoeRefIdeal Cert.MoeRefIdeal.Gen Idealize.ShloMosaic Idealize.ShloMosaic.TcCoe Idealize.SL.Sem
open Cert.Experts

/-- The array the reference returns, from its six arguments. -/
def REF (X : FVec Ideal S32768x1024 .f32) (H : FVec Ideal S32768x1024 .bf16) (G : FVec Ideal S32768x128 .f32)
    (WG WU : FVec Ideal S32x1024x256 .f32) (WD : FVec Ideal S32x256x1024 .f32) : FVec Ideal S32768x1024 .f32 :=
  addf X (Host.reduceAdd (mulf (broadcastInDim S32x32768x1024 ![0, 1, 2] bcast_S32x32768x1_S32x32768x1024_0_1_2 (broadcastInDim S32x32768x1 ![0, 1] bcast_S32x32768_S32x32768x1_0_1 (extractStridedSlice S32x32768 ![0, 0] (transpose S128x32768 [1, 0] G transposes_S32768x128_S128x32768_1_0) slices_S128x32768_S32x32768_0_0))) (Host.dotGeneral dot_S32x32768x256_S32x256x1024_S32x32768x1024_2_1_1_2_0_0 none (mulf (mulf (transpose S32x32768x256 [0, 2, 1] (Host.dotGeneral dot_S32x1024x256_S32768x1024_S32x256x32768_1_1_02_0_n_n none WG (extf .f32 H bitsLt_bf16_f32)) transposes_S32x256x32768_S32x32768x256_0_2_1) (Host.divf (broadcastInDim S32x32768x256 ![] bcast_S_S32x32768x256 (constant S_ .f32 0x3F800000#32)) (addf (broadcastInDim S32x32768x256 ![] bcast_S_S32x32768x256 (constant S_ .f32 0x3F800000#32)) (Host.exp (Host.negf (transpose S32x32768x256 [0, 2, 1] (Host.dotGeneral dot_S32x1024x256_S32768x1024_S32x256x32768_1_1_02_0_n_n none WG (extf .f32 H bitsLt_bf16_f32)) transposes_S32x256x32768_S32x32768x256_0_2_1)))))) (transpose S32x32768x256 [0, 2, 1] (Host.dotGeneral dot_S32x1024x256_S32768x1024_S32x256x32768_1_1_02_0_n_n none WU (extf .f32 H bitsLt_bf16_f32)) transposes_S32x256x32768_S32x32768x256_0_2_1)) WD)) (constant S_ .f32 0x00000000#32) reducesTo_S32x32768x1024_S32768x1024_d0 h_S_)

/-- The reference at a row and a column: the residual entry plus the thirty-two experts' contributions. -/
theorem ref_apply (X : FVec Ideal S32768x1024 .f32) (H : FVec Ideal S32768x1024 .bf16) (G : FVec Ideal S32768x128 .f32)
    (WG WU : FVec Ideal S32x1024x256 .f32) (WD : FVec Ideal S32x256x1024 .f32) (r : Fin 32768) (d : Fin 1024) :
    REF X H G WG WU WD (ix2 r d) = X (ix2 r d) + ∑ e : Fin 32, expert (fun k => H (ix2 r k))
      (fun k f => WG (ix3 e k f)) (fun k f => WU (ix3 e k f)) (fun f => WD (ix3 e f d)) (G (ix2 r ⟨e.val, by omega⟩)) := by
  pointwise [REF]
  refine congrArg (X (ix2 r d) + ·) (Finset.sum_congr rfl fun e _ => ?_)
  unfold expert
  simp only [mul_comm (H _)]
  rfl

end Cert.MoeRefIdeal.Experts

end
-- ==== Proof.MoeBlocks.lean ====
/- The rows and the weights that each visit of the expert kernel reads. -/
module

public import proofs.«01_k».proof.Proof.Gen.MoeIdeal.Value
public import proofs.«01_k».proof.Proof.MoeExpert
public import proofs.«01_k».proof.Proof.MoeReference
public import Idealize.ShloMosaic.Lib.Pipeline.ValueKit
public import Idealize.ShloMosaic.Lib.Claim

@[expose] public section

set_option maxRecDepth 16384

noncomputable section

namespace Cert.MoeIdeal.Experts

open Cert.MoeIdeal Cert.MoeIdeal.Gen Idealize.ShloMosaic Idealize.ShloMosaic.TcCoe Idealize.SL.Sem
open Idealize.ShloMosaic.Pipeline (Dat)
open Cert.Experts Cert.MoeIdeal.Value

variable (m : (ℓ : Loc nD τ sig) → Buf (Elt Ideal) ℓ)

/-- The blocks each visit reads: rows by the quotient of the visit's number by 32, experts by its remainder. -/
theorem idx : ∀ t : Fin cfg0.N, win0_0.index t = ![t.val / 32, 0] ∧ win0_1.index t = ![t.val / 32, 0]
    ∧ win0_2.index t = ![t.val / 32, 0] ∧ win0_3.index t = ![t.val % 32, 0, 0]
    ∧ win0_4.index t = ![t.val % 32, 0, 0] ∧ win0_5.index t = ![t.val % 32, 0, 0] ∧ (grid0.coords t 1 : ℕ) = t.val % 32 :=
  (by decide +kernel : ∀ t : Fin grid0.N, _)

abbrev X (c : Dev nD) : FVec Ideal S32768x1024 .f32 := m ((c : Thread nD τ).loc main_arg0)
abbrev H (c : Dev nD) : FVec Ideal S32768x1024 .bf16 := m ((c : Thread nD τ).loc main_arg1)
abbrev G (c : Dev nD) : FVec Ideal S32768x128 .f32 := m ((c : Thread nD τ).loc main_arg2)
abbrev WG (c : Dev nD) : FVec Ideal S32x1024x256 .f32 := m ((c : Thread nD τ).loc main_arg3)
abbrev WU (c : Dev nD) : FVec Ideal S32x1024x256 .f32 := m ((c : Thread nD τ).loc main_arg4)
abbrev WD (c : Dev nD) : FVec Ideal S32x256x1024 .f32 := m ((c : Thread nD τ).loc main_arg5)

theorem blk0 (c : Dev nD) (t : Fin cfg0.N) (q : ℕ) (hq : t.val / 32 = q) (hq' : q < 64) (r : Fin 512) (k : Fin 1024) :
    iblk m c 0 t (ix2 r k) = X m c (ix2 ⟨q * 512 + r.val, by omega⟩ k) := by
  subst hq; blk_point [iblk, V, idx t]

theorem blk1 (c : Dev nD) (t : Fin cfg0.N) (q : ℕ) (hq : t.val / 32 = q) (hq' : q < 64) (r : Fin 512) (k : Fin 1024) :
    iblk m c 1 t (ix2 r k) = H m c (ix2 ⟨q * 512 + r.val, by omega⟩ k) := by
  subst hq; blk_point [iblk, V, idx t]

theorem blk2 (c : Dev nD) (t : Fin cfg0.N) (q : ℕ) (hq : t.val / 32 = q) (hq' : q < 64) (r : Fin 512) (k : Fin 128) :
    iblk m c 2 t (ix2 r k) = G m c (ix2 ⟨q * 512 + r.val, by omega⟩ k) := by
  subst hq; blk_point [iblk, V, idx t]

theorem blk3 (c : Dev nD) (t : Fin cfg0.N) (k : Fin 1024) (f : Fin 256) :
    iblk m c 3 t (ix3 0 k f) = WG m c (ix3 ⟨t.val % 32, Nat.mod_lt _ (by decide)⟩ k f) := by
  blk_simp [iblk]; entry_read; blk_point [idx t]

theorem blk4 (c : Dev nD) (t : Fin cfg0.N) (k : Fin 1024) (f : Fin 256) :
    iblk m c 4 t (ix3 0 k f) = WU m c (ix3 ⟨t.val % 32, Nat.mod_lt _ (by decide)⟩ k f) := by
  blk_simp [iblk]; entry_read; blk_point [idx t]

theorem blk5 (c : Dev nD) (t : Fin cfg0.N) (f : Fin 256) (d : Fin 1024) :
    iblk m c 5 t (ix3 0 f d) = WD m c (ix3 ⟨t.val % 32, Nat.mod_lt _ (by decide)⟩ f d) := by
  blk_simp [iblk]; entry_read; blk_point [idx t]

end Cert.MoeIdeal.Experts

end
-- ==== Proof.MoeValue.lean ====
/- What the expert kernel leaves in its result array: the reference's array. -/
module

public import proofs.«01_k».proof.Proof.MoeBlocks

@[expose] public section

set_option maxRecDepth 16384

noncomputable section

namespace Cert.MoeIdeal.Experts

open Cert.MoeIdeal Cert.MoeIdeal.Gen Idealize.ShloMosaic Idealize.ShloMosaic.TcCoe Idealize.SL.Sem
open Cert.Experts Cert.MoeIdeal.Value

variable (m : (ℓ : Loc nD τ sig) → Buf (Elt Ideal) ℓ)

/-- What visit `n` adds to the entry `y` of block `q` of rows: the contribution of expert `n % 32`. -/
def term (c : Dev nD) (q : ℕ) (hq : q < 64) (n : ℕ) (y : S512x1024.Idx) : EReal :=
  have hy : (y 0).val < 512 := (y 0).isLt
  let e : Fin 32 := ⟨n % 32, Nat.mod_lt _ (by decide)⟩
  let r : Fin 32768 := ⟨q * 512 + (y 0).val, by omega⟩
  expert (fun k => H m c (ix2 r k)) (fun k f => WG m c (ix3 e k f)) (fun k f => WU m c (ix3 e k f))
    (fun f => WD m c (ix3 e f ⟨(y 1).val, (y 1).isLt⟩)) (G m c (ix2 r ⟨e.val, by omega⟩))

/-- A visit of block `q` adds its term. -/
theorem step_apply (c : Dev nD) (q : ℕ) (hq : q < 64) (n : ℕ) (h : n < cfg0.N) (hn : n / 32 = q)
    (acc : FVec Ideal S512x1024 .f32) (y : S512x1024.Idx) :
    step6 m c n h acc y = acc y + term m c q hq n y := by
  idx_vars y
  obtain ⟨-, -, -, -, -, -, hc⟩ := idx ⟨n, h⟩
  unfold step6 term
  rw [pay_apply _ _ _ _ _ _ _ y0 y1 (n % 32) (Nat.mod_lt _ (by decide)) hc]
  simp only [blk1 m c ⟨n, h⟩ q hn hq, blk2 m c ⟨n, h⟩ q hn hq, blk3 m c ⟨n, h⟩, blk4 m c ⟨n, h⟩, blk5 m c ⟨n, h⟩]
  rfl

/-- The first visit of block `q` starts from the residual rows. -/
theorem reset_apply (c : Dev nD) (q : ℕ) (hq : q < 64) (n : ℕ) (h : n < cfg0.N) (hn : n / 32 = q) (y : S512x1024.Idx) :
    reset6 m c n h y = (show EReal from iblk m c 0 ⟨n, h⟩ y) + term m c q hq n y :=
  step_apply m c q hq n h hn (iblk m c 0 ⟨n, h⟩) y

/-- After its thirty-two visits block `q` holds the residual rows plus every expert's contribution. -/
theorem run_apply (c : Dev nD) (q : ℕ) (hq : q < 64) (h : 32 * q + 31 < cfg0.N) (r : Fin 512) (d : Fin 1024) :
    Pipeline.accAt (reset6 m c) (step6 m c) (32 * q) 31 h (ix2 r d)
      = X m c (ix2 ⟨q * 512 + r.val, by omega⟩ d) + ∑ e : Fin 32, term m c q hq e.val (ix2 r d) := by
  have key := Pipeline.accAt_add_apply (reset6 m c) (step6 m c)
    (fun y => (show EReal from iblk m c 0 ⟨32 * q, by omega⟩ y)) (fun n y => term m c q hq n y) (32 * q) 31
    (fun h y => reset_apply m c q hq _ h (by omega) y)
    (fun n h acc y h1 h2 => step_apply m c q hq n h (by omega) acc y) 31 le_rfl h (ix2 r d)
  refine key.trans ?_
  rw [Finset.sum_range]
  refine congrArg₂ (· + ·) (blk0 m c ⟨32 * q, by omega⟩ q (by simp) hq r d) (Finset.sum_congr rfl fun e _ => ?_)
  unfold term
  simp only [show (32 * q + e.val) % 32 = e.val % 32 from by omega]

/-- The result array of the kernel is the array the reference returns. -/
theorem final (c : Dev nD) : (dats m 0 c).arrAt 6 cfg0.N
    = Cert.MoeRefIdeal.Experts.REF (X m c) (H m c) (G m c) (WG m c) (WU m c) (WD m c) := by
  rw [final6]
  funext i
  idx_vars i
  have hN : cfg0.N = 2048 := N_0
  unfold G6
  have hrun : run6Of (ix2 i0 i1) = i0.val / 512 := by
    show 1 * (i0.val / 512 - 0) + 1 * (i1.val / 1024 - 0) = _
    omega
  have hloc : loc6Of (ix2 i0 i1) = ix2 ⟨i0.val % 512, Nat.mod_lt _ (by decide)⟩ i1 := by
    funext a; apply Fin.ext
    match a with
    | ⟨0, _⟩ => rfl
    | ⟨1, _⟩ => show i1.val % 1024 = i1.val; omega
  rw [dif_pos (by rw [hrun]; omega), hloc]
  have e : ∀ (b : ℕ) (h : 32 * b + 31 < cfg0.N) (h' : 32 * (i0.val / 512) + 31 < cfg0.N), b = i0.val / 512 →
      Pipeline.accAt (reset6 m c) (step6 m c) (32 * b) 31 h
        = Pipeline.accAt (reset6 m c) (step6 m c) (32 * (i0.val / 512)) 31 h' := by
    intro b h h' hb; subst hb; rfl
  rw [e _ _ (by omega) hrun]
  refine (run_apply m c (i0.val / 512) (by omega) (by omega) _ i1).trans ?_
  refine Eq.trans ?_ (Cert.MoeRefIdeal.Experts.ref_apply (X m c) (H m c) (G m c) (WG m c) (WU m c) (WD m c) i0 i1).symm
  unfold term
  have hr : i0.val / 512 * 512 + i0.val % 512 = i0.val := by omega
  simp only [hr, ix2_0, ix2_1, Nat.mod_eq_of_lt (Fin.isLt _)]

end Cert.MoeIdeal.Experts

end
-- ==== Proof.AttnWords.lean ====
/- Looking up the rows of a table, and the 32-bit words by which the attention finds its biases and its chunks. -/
module

public import Idealize.ShloMosaic.Lib.Pointwise
public import Idealize.ShloMosaic.Lib.Pipeline.ValueKit

@[expose] public section

set_option maxRecDepth 16384

noncomputable section

namespace Cert.Attn

open Idealize.ShloMosaic

/-- The dimension numbers of looking up rows of a table of 257 rows of 8 at an array of row numbers. -/
abbrev rowsDims (A B : ℕ)
    (wf : GatherDims.WF ⟨2, ![257, 8]⟩ ⟨3, ![A, B, 1]⟩ ⟨3, ![A, B, 8]⟩ [2] [0] [] [0] [] 2 ![1, 8]) :
    GatherDims ⟨2, ![257, 8]⟩ ⟨3, ![A, B, 1]⟩ ⟨3, ![A, B, 8]⟩ where
  offsetDims := [2]
  collapsedSliceDims := [0]
  operandBatchingDims := []
  startIndicesBatchingDims := []
  startIndexMap := [0]
  indexVectorDim := 2
  sliceSizes := ![1, 8]
  wf := wf

/-- Entry `h` of the row looked up at `(a, b)`: the row number is read signed and held between 0 and 256. -/
theorem rows_apply {α : Type} {A B : ℕ}
    (wf : GatherDims.WF ⟨2, ![257, 8]⟩ ⟨3, ![A, B, 1]⟩ ⟨3, ![A, B, 8]⟩ [2] [0] [] [0] [] 2 ![1, 8])
    (x : (⟨2, ![257, 8]⟩ : Shape).Idx → α) (idx : IVec ⟨3, ![A, B, 1]⟩ 32) (a : Fin A) (b : Fin B) (h : Fin 8) :
    Host.gather (rowsDims A B wf) x idx (ix3 a b h)
      = x (ix2 ⟨min (idx (ix3 a b 0)).toInt.toNat 256, by omega⟩ h) := by
  unfold Host.gather
  congr 1
  have h0 : (rowsDims A B wf).start (ix3 a b h) idx 0 + (rowsDims A B wf).batchCoord (ix3 a b h) 0
      + (rowsDims A B wf).offCoord (ix3 a b h) 0 = min (idx (ix3 a b 0)).toInt.toNat 256 := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims A B wf).startIndexMap from List.mem_singleton.mpr rfl)]
    have hsi : (rowsDims A B wf).siIdx (ix3 a b h) ⟨List.idxOf (0 : Fin 2) (rowsDims A B wf).startIndexMap,
        List.idxOf_lt_length_iff.2 (List.mem_singleton.mpr rfl)⟩ = ix3 a b 0 := by
      funext e; refine Fin.ext ?_
      match e with
      | ⟨0, _⟩ => rfl
      | ⟨1, _⟩ => rfl
      | ⟨2, _⟩ => rfl
    rw [hsi]
    rfl
  have h1 : (rowsDims A B wf).start (ix3 a b h) idx 1 + (rowsDims A B wf).batchCoord (ix3 a b h) 1
      + (rowsDims A B wf).offCoord (ix3 a b h) 1 = h.val := by
    rw [GatherDims.batchCoord_eq_zero _ _ _ List.not_mem_nil]
    unfold GatherDims.start
    rw [dif_neg (by show ¬ (1 : Fin 2) ∈ [(0 : Fin 2)]; decide)]
    simp only [Nat.zero_add, Nat.add_zero]
    rfl
  funext d
  refine Fin.ext ?_
  match d with
  | ⟨0, _⟩ => exact h0
  | ⟨1, _⟩ => exact h1

/-- A position's distance, held between −128 and 128 and moved to 0 … 256, as a table's row number is computed. -/
def startWord (x : BitVec 32) : BitVec 32 :=
  let y := IntOp.addi (IntOp.minsi 128#32 (IntOp.maxsi 4294967168#32 x)) 128#32
  Scalar.select (IntOp.cmpi .slt y 0#32) (IntOp.addi y 257#32) y

/-- The row of the table of biases for a distance. -/
def row (x : BitVec 32) : Fin 257 := ⟨min (startWord x).toInt.toNat 256, by omega⟩

/-- The sign of a word. -/
def signWord (x : BitVec 32) : BitVec 32 := if x = 0 then 0 else if x.msb = true then -1 else 1

/-- A position divided by 64 and rounded down, as a chunk's number is computed. -/
def chunkWord (x : BitVec 32) : BitVec 32 :=
  Scalar.select
    (IntOp.andi
      (IntOp.cmpi .ne (signWord x) (signWord 64#32))
      (IntOp.cmpi .ne (IntOp.remsi ArithUnit.host x 64#32) 0#32))
    (IntOp.subi (IntOp.divsi ArithUnit.host x 64#32) 1#32)
    (IntOp.divsi ArithUnit.host x 64#32)

/-- The chunk of position `n` is `n / 64`. -/
theorem chunkWord_eq : ∀ n : Fin 2048, chunkWord (BitVec.ofNat 32 n.val) = BitVec.ofNat 32 (n.val / 64) := by
  decide +kernel

/-- The chunk numbers of an array of positions, as the host computes them: rounded toward zero, one less when the signs
    differ and the division leaves a remainder. -/
def floor64 {S : Shape} (hb : (⟨0, ![]⟩ : Shape).BroadcastsInDim S (![] : Fin 0 → Fin S.rank)) (x : IVec S 32) : IVec S 32 :=
  select
    (andi (cmpi .ne (signi x) (broadcastInDim S ![] hb (signi (id (constantI ⟨0, ![]⟩ 32 64#32)))))
      (cmpi .ne (Host.remsi x (broadcastInDim S ![] hb (id (constantI ⟨0, ![]⟩ 32 64#32))))
        (broadcastInDim S ![] hb (constantI ⟨0, ![]⟩ 32 0#32))))
    (subi (Host.divsi x (broadcastInDim S ![] hb (id (constantI ⟨0, ![]⟩ 32 64#32))))
      (broadcastInDim S ![] hb (constantI ⟨0, ![]⟩ 32 1#32)))
    (Host.divsi x (broadcastInDim S ![] hb (id (constantI ⟨0, ![]⟩ 32 64#32))))

/-- An entry of the chunk numbers is the chunk number of the entry. -/
theorem floor64_apply {S : Shape} (hb : (⟨0, ![]⟩ : Shape).BroadcastsInDim S (![] : Fin 0 → Fin S.rank)) (x : IVec S 32)
    (y : S.Idx) : floor64 hb x y = chunkWord (x y) := rfl

/-- The row numbers of an array of distances, as the host computes them. -/
def starts {S : Shape} (hb : (⟨0, ![]⟩ : Shape).BroadcastsInDim S (![] : Fin 0 → Fin S.rank)) (x : IVec S 32) : IVec S 32 :=
  let y := addi (minsi (broadcastInDim S ![] hb (id (constantI ⟨0, ![]⟩ 32 128#32)))
    (maxsi (broadcastInDim S ![] hb (id (constantI ⟨0, ![]⟩ 32 4294967168#32))) x))
    (broadcastInDim S ![] hb (constantI ⟨0, ![]⟩ 32 128#32))
  select (cmpi .slt y (broadcastInDim S ![] hb (constantI ⟨0, ![]⟩ 32 0#32)))
    (addi y (broadcastInDim S ![] hb (constantI ⟨0, ![]⟩ 32 257#32))) y

/-- An entry of the row numbers is the row number of the entry. -/
theorem starts_apply {S : Shape} (hb : (⟨0, ![]⟩ : Shape).BroadcastsInDim S (![] : Fin 0 → Fin S.rank)) (x : IVec S 32)
    (y : S.Idx) : starts hb x y = startWord (x y) := rfl

/-- The kernel's test of the chunks of query row `r` and key column `c` of a block. -/
theorem allowed_eq (r : Fin 256) (c : Fin 768) :
    IntOp.andi (IntOp.cmpi .sge (chunkWord (BitVec.ofNat 32 c.val)) (chunkWord (BitVec.ofNat 32 r.val)))
        (IntOp.cmpi .sle (chunkWord (BitVec.ofNat 32 c.val)) (IntOp.addi (chunkWord (BitVec.ofNat 32 r.val)) 8#32))
      = if r.val / 64 ≤ c.val / 64 ∧ c.val / 64 ≤ r.val / 64 + 8 then 1#1 else 0#1 := by
  rw [chunkWord_eq ⟨c.val, by omega⟩, chunkWord_eq ⟨r.val, by omega⟩]
  have h : ∀ a : Fin 12, ∀ b : Fin 4, IntOp.andi (IntOp.cmpi .sge (BitVec.ofNat 32 a.val) (BitVec.ofNat 32 b.val))
        (IntOp.cmpi .sle (BitVec.ofNat 32 a.val) (IntOp.addi (BitVec.ofNat 32 b.val) 8#32))
      = if b.val ≤ a.val ∧ a.val ≤ b.val + 8 then 1#1 else 0#1 := by decide +kernel
  exact h ⟨c.val / 64, by omega⟩ ⟨r.val / 64, by omega⟩

/-- The reference's test of the chunks of query `q` and key `k`. -/
theorem valid_eq (q k : Fin 2048) :
    IntOp.andi (IntOp.cmpi .sle (chunkWord (BitVec.ofNat 32 k.val)) (chunkWord (BitVec.ofNat 32 q.val)))
        (IntOp.cmpi .sge (chunkWord (BitVec.ofNat 32 k.val)) (IntOp.subi (chunkWord (BitVec.ofNat 32 q.val)) 8#32))
      = if k.val / 64 ≤ q.val / 64 ∧ q.val / 64 ≤ k.val / 64 + 8 then 1#1 else 0#1 := by
  rw [chunkWord_eq k, chunkWord_eq q]
  have h : ∀ a : Fin 32, ∀ b : Fin 32, IntOp.andi (IntOp.cmpi .sle (BitVec.ofNat 32 a.val) (BitVec.ofNat 32 b.val))
        (IntOp.cmpi .sge (BitVec.ofNat 32 a.val) (IntOp.subi (BitVec.ofNat 32 b.val) 8#32))
      = if a.val ≤ b.val ∧ b.val ≤ a.val + 8 then 1#1 else 0#1 := by decide +kernel
  exact h ⟨k.val / 64, by omega⟩ ⟨q.val / 64, by omega⟩

/-- The distance of query `i · 256 + r` from key `k` is that of row `r` from column `c` of the three blocks that end with
    block `i`, when `k` is the key of that column. -/
theorem dist_eq (r c i k : ℕ) (hr : r < 256) (hc : c < 768) (hi : i < 8) (hk : k + 512 = i * 256 + c) :
    IntOp.subi (BitVec.ofNat 32 (i * 256 + r)) (BitVec.ofNat 32 k)
      = IntOp.subi (IntOp.addi (BitVec.ofNat 32 r) 512#32) (BitVec.ofNat 32 c) := by
  apply BitVec.eq_of_toNat_eq
  simp only [IntOp.subi, IntOp.addi, BitVec.toNat_sub, BitVec.toNat_add, BitVec.toNat_ofNat]
  omega

end Cert.Attn

end
-- ==== Proof.AttnBias.lean ====
/- The tile of biases that the kernel adds to its scores: of each head, for 256 queries and the 768 keys they can see. -/
module

public import Idealize.ShloMosaic.Lib.Pipeline.ValueKit
public import Idealize.ShloMosaic.Lib.Claim
public import proofs.«01_k».proof.Proof.Gen.KernelIdeal.Value
public import proofs.«01_k».proof.Proof.AttnWords

@[expose] public section

set_option maxRecDepth 16384

noncomputable section

namespace Cert.KernelIdeal.Attn

open Cert.KernelIdeal Cert.KernelIdeal.Gen Idealize.ShloMosaic Idealize.ShloMosaic.TcCoe Idealize.SL.Sem
open Cert.Attn

variable (m : (ℓ : Loc nD τ sig) → Buf (Elt Ideal) ℓ)

/-- The rows' numbers. -/
def ROW : IVec S256x1 32 := broadcastInDim S256x1 ![0] bcast_S256_S256x1_0 (iotaInDim S256 32 0)

/-- The columns' numbers. -/
def COL : IVec S1x768 32 := broadcastInDim S1x768 ![1] bcast_S768_S1x768_1 (iotaInDim S768 32 0)

/-- The distances of the rows' queries from the columns' keys. -/
def DIST : IVec S256x768 32 :=
  subi (broadcastInDim S256x768 ![0, 1] bcast_S256x1_S256x768_0_1
      (addi ROW (broadcastInDim S256x1 ![] bcast_S_S256x1 (constantI S_ 32 512#32))))
    (broadcastInDim S256x768 ![0, 1] bcast_S1x768_S256x768_0_1 COL)

/-- Which keys a query may see. -/
def ALLOWED : IVec S256x768 1 :=
  andi
    (cmpi .sge (broadcastInDim S256x768 ![0, 1] bcast_S1x768_S256x768_0_1 (floor64 bcast_S_S1x768 COL))
      (broadcastInDim S256x768 ![0, 1] bcast_S256x1_S256x768_0_1 (floor64 bcast_S_S256x1 ROW)))
    (cmpi .sle (broadcastInDim S256x768 ![0, 1] bcast_S1x768_S256x768_0_1 (floor64 bcast_S_S1x768 COL))
      (broadcastInDim S256x768 ![0, 1] bcast_S256x1_S256x768_0_1
        (addi (floor64 bcast_S_S256x1 ROW) (broadcastInDim S256x1 ![] bcast_S_S256x1 (constantI S_ 32 8#32)))))

/-- The tile of biases, from the table `x`. -/
def BIAS (x : FVec Ideal S257x8 .f32) : FVec Ideal S8x256x768 .f32 :=
  select
    (broadcastInDim S8x256x768 ![0, 1, 2] bcast_S1x256x768_S8x256x768_0_1_2
      (broadcastInDim S1x256x768 ![1, 2] bcast_S256x768_S1x256x768_1_2 ALLOWED))
    (transpose S8x256x768 [2, 0, 1]
      (Host.gather gather_S257x8_S256x768x1_S256x768x8_2_0_n_n_0_2_18 x
        (broadcastInDim S256x768x1 ![0, 1] bcast_S256x768_S256x768x1_0_1 (starts bcast_S_S256x768 DIST)))
      transposes_S256x768x8_S8x256x768_2_0_1)
    (broadcastInDim S8x256x768 ![] bcast_S_S8x256x768 (id (constant S_ .f32 0xFF800000#32)))

/-- The kernel finds that tile. -/
theorem V_bias (c : Dev nD) : V m c main_v32 = BIAS (m ((c : Thread nD τ).loc main_arg1)) := by
  simp only [V, hostOps0, hostOps0_1, hostOps0_2, hostOps0_3, hostOps0_4, hostOps0_5, hostOps0_6, hostOps0_7,
    List.flatten_cons, List.flatten_nil, List.append_nil, List.cons_append, List.nil_append]
  entry_read
  simp only [StableHlo.TRef.toBuf, StableHlo.TRef.ofBuf, cast_cast, cast_eq]
  rfl

/-- A row's and a column's test. -/
theorem allowed_apply (r : Fin 256) (k : Fin 768) :
    ALLOWED (ix2 r k) = if r.val / 64 ≤ k.val / 64 ∧ k.val / 64 ≤ r.val / 64 + 8 then 1#1 else 0#1 := by
  rw [← allowed_eq]; pointwise [ALLOWED, ROW, COL, floor64_apply]

/-- The tile's entry of head `h` for row `r` and column `k`. -/
theorem bias_apply (x : FVec Ideal S257x8 .f32) (h : Fin 8) (r : Fin 256) (k : Fin 768) :
    BIAS x (ix3 h r k)
      = if r.val / 64 ≤ k.val / 64 ∧ k.val / 64 ≤ r.val / 64 + 8
        then x (ix2 (row (IntOp.subi (IntOp.addi (BitVec.ofNat 32 r.val) 512#32) (BitVec.ofNat 32 k.val))) h)
        else ⊥ := by
  have hg : Host.gather gather_S257x8_S256x768x1_S256x768x8_2_0_n_n_0_2_18 x
        (broadcastInDim S256x768x1 ![0, 1] bcast_S256x768_S256x768x1_0_1 (starts bcast_S_S256x768 DIST)) (ix3 r k h)
      = x (ix2 (row (IntOp.subi (IntOp.addi (BitVec.ofNat 32 r.val) 512#32) (BitVec.ofNat 32 k.val))) h) := by
    refine (rows_apply _ x _ r k h).trans ?_
    congr 2
  have hm : Ideal.ofBits .f32 0xFF800000#32 = ⊥ := by simp [Ideal.ofBits, Ideal.ieee]
  trans Scalar.select (ALLOWED (ix2 r k)) (x (ix2 (row (IntOp.subi (IntOp.addi (BitVec.ofNat 32 r.val) 512#32) (BitVec.ofNat 32 k.val))) h)) ⊥
  · rw [← hg, ← hm]
    pointwise [BIAS]
    rfl
  · rw [allowed_apply]
    split_ifs <;> rfl

end Cert.KernelIdeal.Attn

end
-- ==== Proof.AttnTerm.lean ====
/- One entry of the attention, over three blocks of keys and over all keys. -/
module

public import Idealize.ShloMosaic.Lib.Pointwise

@[expose] public section

set_option maxRecDepth 16384

noncomputable section

namespace Cert.Attn

open Idealize.ShloMosaic

/-- The largest of the scores `s`, minus infinity when there is none. -/
def top {n : ℕ} (s : Fin n → EReal) : EReal := Finset.univ.fold max ⊥ s

/-- The attention over three blocks of 256 keys with scores `s0 s1 s2` and values `v0 v1 v2`: weighted sum of the
    values divided by the sum of the weights. -/
def quot (s0 s1 s2 v0 v1 v2 : Fin 256 → EReal) : EReal :=
  Ideal.div
    (∑ c, Ideal.exp (s0 c - max (max (top s0) (top s1)) (top s2)) * v0 c
      + ∑ c, Ideal.exp (s1 c - max (max (top s0) (top s1)) (top s2)) * v1 c
      + ∑ c, Ideal.exp (s2 c - max (max (top s0) (top s1)) (top s2)) * v2 c)
    (∑ c, Ideal.exp (s0 c - max (max (top s0) (top s1)) (top s2))
      + ∑ c, Ideal.exp (s1 c - max (max (top s0) (top s1)) (top s2))
      + ∑ c, Ideal.exp (s2 c - max (max (top s0) (top s1)) (top s2)))

/-- The attention over all 2048 keys with scores `f` and values `v`: the values weighted by the softmax of the scores. -/
def soft (f v : Fin 2048 → EReal) : EReal :=
  ∑ k, v k * Ideal.div (Ideal.exp (f k - top f)) (∑ k', Ideal.exp (f k' - top f))

end Cert.Attn

end
-- ==== Proof.AttnHead.lean ====
/- What the attention kernel computes for one head of one block of queries. -/
module

public import proofs.«01_k».proof.Proof.Gen.KernelIdeal.Skeleton
public import proofs.«01_k».proof.Proof.AttnTerm

@[expose] public section

set_option maxRecDepth 16384

noncomputable section

namespace Cert.KernelIdeal.Attn

open Cert.KernelIdeal Cert.KernelIdeal.Gen Idealize.ShloMosaic Idealize.ShloMosaic.TcCoe Idealize.SL.Sem
open Cert.Attn

/-- One head of one block of queries `q`: the scores against the keys `k0 k1 k2` of three blocks with their biases and
    the penalties `n0 n1` of the first two, and the values `v0 v1 v2` averaged with the scores' weights. -/
def HEAD {F : FTy → Type} [FloatOps F] [Named F] (n0 n1 : F .f32) (q k0 k1 k2 v0 v1 v2 : Vec F S1x256x64 .bf16)
    (b0 b1 b2 : Vec F S1x256x256 .f32) : FVec F S1x256x64 .bf16 :=
  k0_pay9 (k0_pay8 (k0_pay11 n0 q k0 b0) (k0_pay12 n1 q k1 b1) (k0_pay13 q k2 b2) v0 v1 v2)

/-- The head's entry for query `r` and component `d`. -/
theorem head_apply (n0 n1 : EReal) (q k0 k1 k2 v0 v1 v2 : FVec Ideal S1x256x64 .bf16)
    (b0 b1 b2 : FVec Ideal S1x256x256 .f32) (r : Fin 256) (d : Fin 64) :
    HEAD (F := Ideal) n0 n1 q k0 k1 k2 v0 v1 v2 b0 b1 b2 (ix3 0 r d)
      = quot (fun c => ∑ e : Fin 64, q (ix3 0 r e) * k0 (ix3 0 c e) + b0 (ix3 0 r c) + n0)
          (fun c => ∑ e : Fin 64, q (ix3 0 r e) * k1 (ix3 0 c e) + b1 (ix3 0 r c) + n1)
          (fun c => ∑ e : Fin 64, q (ix3 0 r e) * k2 (ix3 0 c e) + b2 (ix3 0 r c))
          (fun c => v0 (ix3 0 c d)) (fun c => v1 (ix3 0 c d)) (fun c => v2 (ix3 0 c d)) := by
  pointwise [HEAD, k0_pay9, k0_pay8, k0_pay10, k0_pay11, k0_pay12, k0_pay13]
  simp only [show Ideal.ofBits .f32 0xFF800000#32 = ⊥ from by simp [Ideal.ofBits, Ideal.ieee]]
  rfl

end Cert.KernelIdeal.Attn

end
-- ==== Proof.AttnBlocks.lean ====
/- The blocks of queries, keys, values and biases that each visit of the attention kernel reads. -/
module

public import proofs.«01_k».proof.Proof.AttnBias
public import proofs.«01_k».proof.Proof.AttnHead

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)
open Cert.Attn

variable (m : (ℓ : Loc nD τ sig) → Buf (Elt Ideal) ℓ)

/-- The blocks each visit reads and writes: the sequence is the quotient of the visit's number by 8, the block of queries its
    remainder, and the keys and the values are of that block and the two before it. -/
theorem idx : ∀ t : Fin cfg0.N, win0_0.index t = ![t.val / 8, t.val % 8, 0]
    ∧ win0_1.index t = ![t.val / 8, t.val % 8 - 2, 1] ∧ win0_2.index t = ![t.val / 8, t.val % 8 - 1, 1]
    ∧ win0_3.index t = ![t.val / 8, t.val % 8, 1]
    ∧ win0_4.index t = ![t.val / 8, t.val % 8 - 2, 2] ∧ win0_5.index t = ![t.val / 8, t.val % 8 - 1, 2]
    ∧ win0_6.index t = ![t.val / 8, t.val % 8, 2] ∧ win0_7.index t = ![0, 0, 0]
    ∧ win0_8.index t = ![t.val / 8, t.val % 8, 0] ∧ (grid0.coords t 1 : ℕ) = t.val % 8 :=
  (by decide +kernel : ∀ t : Fin grid0.N, _)

/-- The projected columns. -/
abbrev U (c : Dev nD) : FVec Ideal S16x2048x5120 .bf16 := m ((c : Thread nD τ).loc main_arg0)

/-- The table of biases. -/
abbrev RB (c : Dev nD) : FVec Ideal S257x8 .f32 := m ((c : Thread nD τ).loc main_arg1)

/-- The queries. -/
theorem blk0 (c : Dev nD) (t : Fin cfg0.N) (r : Fin 256) (y : Fin 512) :
    iblk m c 0 t (ix3 0 r y) = U m c (ix3 ⟨t.val / 8, by have : t.val < 128 := t.isLt; omega⟩
      ⟨t.val % 8 * 256 + r.val, by omega⟩ ⟨y.val, by omega⟩) := by
  blk_point [iblk, V, idx t]

/-- The keys of the block before the previous one. -/
theorem blk1 (c : Dev nD) (t : Fin cfg0.N) (r : Fin 256) (y : Fin 512) :
    iblk m c 1 t (ix3 0 r y) = U m c (ix3 ⟨t.val / 8, by have : t.val < 128 := t.isLt; omega⟩
      ⟨(t.val % 8 - 2) * 256 + r.val, by omega⟩ ⟨512 + y.val, by omega⟩) := by
  blk_point [iblk, V, idx t]

/-- The keys of the previous block. -/
theorem blk2 (c : Dev nD) (t : Fin cfg0.N) (r : Fin 256) (y : Fin 512) :
    iblk m c 2 t (ix3 0 r y) = U m c (ix3 ⟨t.val / 8, by have : t.val < 128 := t.isLt; omega⟩
      ⟨(t.val % 8 - 1) * 256 + r.val, by omega⟩ ⟨512 + y.val, by omega⟩) := by
  blk_point [iblk, V, idx t]

/-- The keys of the same block. -/
theorem blk3 (c : Dev nD) (t : Fin cfg0.N) (r : Fin 256) (y : Fin 512) :
    iblk m c 3 t (ix3 0 r y) = U m c (ix3 ⟨t.val / 8, by have : t.val < 128 := t.isLt; omega⟩
      ⟨t.val % 8 * 256 + r.val, by omega⟩ ⟨512 + y.val, by omega⟩) := by
  blk_point [iblk, V, idx t]

/-- The values of the block before the previous one. -/
theorem blk4 (c : Dev nD) (t : Fin cfg0.N) (r : Fin 256) (y : Fin 512) :
    iblk m c 4 t (ix3 0 r y) = U m c (ix3 ⟨t.val / 8, by have : t.val < 128 := t.isLt; omega⟩
      ⟨(t.val % 8 - 2) * 256 + r.val, by omega⟩ ⟨1024 + y.val, by omega⟩) := by
  blk_point [iblk, V, idx t]

/-- The values of the previous block. -/
theorem blk5 (c : Dev nD) (t : Fin cfg0.N) (r : Fin 256) (y : Fin 512) :
    iblk m c 5 t (ix3 0 r y) = U m c (ix3 ⟨t.val / 8, by have : t.val < 128 := t.isLt; omega⟩
      ⟨(t.val % 8 - 1) * 256 + r.val, by omega⟩ ⟨1024 + y.val, by omega⟩) := by
  blk_point [iblk, V, idx t]

/-- The values of the same block. -/
theorem blk6 (c : Dev nD) (t : Fin cfg0.N) (r : Fin 256) (y : Fin 512) :
    iblk m c 6 t (ix3 0 r y) = U m c (ix3 ⟨t.val / 8, by have : t.val < 128 := t.isLt; omega⟩
      ⟨t.val % 8 * 256 + r.val, by omega⟩ ⟨1024 + y.val, by omega⟩) := by
  blk_point [iblk, V, idx t]

/-- The biases. -/
theorem blk7 (c : Dev nD) (t : Fin cfg0.N) (h : Fin 8) (r : Fin 256) (k : Fin 768) :
    iblk m c 7 t (ix3 h r k) = BIAS (RB m c) (ix3 h r k) := by
  rw [← V_bias]
  blk_simp [iblk]
  blk_point [idx t]

end Cert.KernelIdeal.Attn

end
-- ==== Proof.AttnSum.lean ====
/- The attention over the three blocks of keys that a query can see is the attention over all keys. -/
module

public import proofs.«01_k».proof.Proof.AttnTerm
public import Idealize.ShloMosaic.Lib.Pipeline.ValueKit

@[expose] public section

set_option maxRecDepth 16384

noncomputable section

namespace Cert.Attn

open Idealize.ShloMosaic

/-- A sum times a nonnegative real is the sum of the products. -/
theorem sum_mul_real {n : ℕ} (a : Fin n → EReal) (r : ℝ) (hr : 0 ≤ r) : (∑ k, a k) * (r : EReal) = ∑ k, a k * r := by
  have h : ∀ s : Finset (Fin n), (∑ k ∈ s, a k) * (r : EReal) = ∑ k ∈ s, a k * r := by
    intro s
    induction s using Finset.induction_on with
    | empty => simp
    | insert k s hk ih =>
      rw [Finset.sum_insert hk, Finset.sum_insert hk,
        EReal.right_distrib_of_nonneg_of_ne_top (EReal.coe_nonneg.mpr hr) (EReal.coe_ne_top r), ih]
  exact h _

/-- A sum of reals, each read as an extended real, is a real. -/
theorem sum_real {n : ℕ} (p : Fin n → ℝ) : ∑ k, ((p k : ℝ) : EReal) = ((∑ k, p k : ℝ) : EReal) := by
  have h : ∀ s : Finset (Fin n), ∑ k ∈ s, ((p k : ℝ) : EReal) = ((∑ k ∈ s, p k : ℝ) : EReal) := by
    intro s
    induction s using Finset.induction_on with
    | empty => simp
    | insert k s hk ih => rw [Finset.sum_insert hk, Finset.sum_insert hk, ih, EReal.coe_add]
  exact h _

/-- The position of key `c` of the `j`-th of the three blocks that queries of block `i` can see. -/
def pos (i : Fin 8) (j : Fin 3) (c : Fin 256) (h : 2 ≤ i.val + j.val) : Fin 2048 :=
  ⟨(i.val + j.val - 2) * 256 + c.val, by omega⟩

/-- The sums over the three blocks make the sum over all keys, when the keys of no other block contribute. -/
theorem sum_blocks (i : Fin 8) (G : Fin 2048 → EReal) (g : Fin 3 → Fin 256 → EReal)
    (hg : ∀ j c (h : 2 ≤ i.val + j.val), g j c = G (pos i j c h))
    (hn : ∀ (j : Fin 3) c, i.val + j.val < 2 → g j c = 0)
    (hG : ∀ k : Fin 2048, ¬ (i.val ≤ k.val / 256 + 2 ∧ k.val / 256 ≤ i.val) → G k = 0) :
    ∑ c, g 0 c + ∑ c, g 1 c + ∑ c, g 2 c = ∑ k, G k := by
  rw [Fin.sum_univ_tiles 8 256 rfl G]
  set T : Fin 8 → EReal := fun b => ∑ t : Fin 256, G ⟨b.val * 256 + t.val, by omega⟩ with hT
  have h1 : ∀ j : Fin 3, ∑ c, g j c = if h : 2 ≤ i.val + j.val then T ⟨i.val + j.val - 2, by omega⟩ else 0 := by
    intro j
    split_ifs with h
    · exact Finset.sum_congr rfl fun c _ => hg j c h
    · exact Finset.sum_eq_zero fun c _ => hn j c (by omega)
  have h2 : ∀ b : Fin 8, ¬ (i.val ≤ b.val + 2 ∧ b.val ≤ i.val) → T b = 0 := by
    intro b hb
    refine Finset.sum_eq_zero fun t _ => hG _ ?_
    have : (b.val * 256 + t.val) / 256 = b.val := by omega
    rw [this]; exact hb
  rw [h1 0, h1 1, h1 2]
  show _ = ∑ b, T b
  rw [Fin.sum_univ_eight]
  clear_value T
  fin_cases i <;> simp [h2]

/-- The largest score over the three blocks is the largest over all keys. -/
theorem top_blocks (i : Fin 8) (f : Fin 2048 → EReal) (s : Fin 3 → Fin 256 → EReal)
    (hs : ∀ j c (h : 2 ≤ i.val + j.val), s j c = f (pos i j c h))
    (hn : ∀ (j : Fin 3) c, i.val + j.val < 2 → s j c = ⊥)
    (hf : ∀ k : Fin 2048, ¬ (i.val ≤ k.val / 256 + 2 ∧ k.val / 256 ≤ i.val) → f k = ⊥) :
    max (max (top (s 0)) (top (s 1))) (top (s 2)) = top f := by
  have hle : ∀ j, top (s j) ≤ top f := by
    intro j
    refine Finset.fold_max_le _ |>.mpr ⟨bot_le, fun c _ => ?_⟩
    by_cases h : 2 ≤ i.val + j.val
    · rw [hs j c h]
      exact (Finset.fold_max_le _ |>.mp le_rfl).2 _ (Finset.mem_univ _)
    · rw [hn j c (by omega)]; exact bot_le
  refine le_antisymm (max_le (max_le (hle 0) (hle 1)) (hle 2)) ?_
  refine Finset.fold_max_le _ |>.mpr ⟨bot_le, fun k _ => ?_⟩
  by_cases hk : i.val ≤ k.val / 256 + 2 ∧ k.val / 256 ≤ i.val
  · have hj : ∀ j : Fin 3, k.val / 256 + 2 = i.val + j.val → f k ≤ top (s j) := by
      intro j hj
      have h : 2 ≤ i.val + j.val := by omega
      have : f k = s j ⟨k.val % 256, by omega⟩ := by
        rw [hs j _ h]; congr 1; refine Fin.ext ?_; simp only [pos]; omega
      rw [this]
      exact (Finset.fold_max_le _ |>.mp le_rfl).2 _ (Finset.mem_univ _)
    rcases (by omega : k.val / 256 + 2 = i.val + 0 ∨ k.val / 256 + 2 = i.val + 1 ∨ k.val / 256 + 2 = i.val + 2) with h | h | h
    · exact (hj 0 h).trans ((le_max_left _ _).trans (le_max_left _ _))
    · exact (hj 1 h).trans ((le_max_right _ _).trans (le_max_left _ _))
    · exact (hj 2 h).trans (le_max_right _ _)
  · rw [hf k hk]; exact bot_le

/-- With scores below plus infinity, one of them above minus infinity, the quotient over the three blocks is the softmax
    average over all keys: `s`, `w` hold the scores and the values of the blocks, minus infinity where a block lies before
    the first key, and the keys of all other blocks have the score minus infinity. -/
theorem quot_eq_soft (i : Fin 8) (f v : Fin 2048 → EReal) (s w : Fin 3 → Fin 256 → EReal)
    (hs : ∀ j c (h : 2 ≤ i.val + j.val), s j c = f (pos i j c h))
    (hw : ∀ j c (h : 2 ≤ i.val + j.val), w j c = v (pos i j c h))
    (hn : ∀ (j : Fin 3) c, i.val + j.val < 2 → s j c = ⊥)
    (hf : ∀ k : Fin 2048, ¬ (i.val ≤ k.val / 256 + 2 ∧ k.val / 256 ≤ i.val) → f k = ⊥)
    (htop : ∀ k, f k ≠ ⊤) (hbot : ∃ k, f k ≠ ⊥) :
    quot (s 0) (s 1) (s 2) (w 0) (w 1) (w 2) = soft f v := by
  obtain ⟨k₀, hk₀⟩ := hbot
  have hle : ∀ k, f k ≤ top f := fun k => (Finset.fold_max_le _ |>.mp le_rfl).2 _ (Finset.mem_univ _)
  have hM1 : top f ≠ ⊤ := by
    refine ne_of_lt (Finset.fold_max_lt _ |>.mpr ⟨bot_lt_top, fun k _ => lt_top_iff_ne_top.mpr (htop k)⟩)
  have hM2 : top f ≠ ⊥ := fun h => hk₀ (le_bot_iff.mp (h ▸ hle k₀))
  have hM := top_blocks i f s hs hn hf
  have hbotM : Ideal.exp (⊥ - top f) = 0 := by
    lift top f to ℝ using ⟨hM1, hM2⟩ with M
    simp
  have hreal : ∀ k, ∃ r : ℝ, 0 ≤ r ∧ (f k ≠ ⊥ → 0 < r) ∧ Ideal.exp (f k - top f) = (r : EReal) := by
    intro k
    by_cases h : f k = ⊥
    · exact ⟨0, le_rfl, fun h' => absurd h h', by rw [h, hbotM]; rfl⟩
    · have h' := htop k
      lift f k to ℝ using ⟨h', h⟩ with x
      lift top f to ℝ using ⟨hM1, hM2⟩ with M
      exact ⟨Real.exp (x - M), (Real.exp_pos _).le, fun _ => Real.exp_pos _, by rw [← EReal.coe_sub]; rfl⟩
  choose p hp0 hp1 hp using hreal
  have hL : ∑ k, Ideal.exp (f k - top f) = ((∑ k, p k : ℝ) : EReal) := by
    rw [← sum_real]; exact Finset.sum_congr rfl fun k _ => hp k
  have hpos : 0 < ∑ k, p k := Finset.sum_pos' (fun k _ => hp0 k) ⟨k₀, Finset.mem_univ _, hp1 k₀ hk₀⟩
  unfold quot soft
  rw [hM]
  rw [sum_blocks i (fun k => Ideal.exp (f k - top f)) (fun j c => Ideal.exp (s j c - top f))
      (fun j c h => by rw [hs j c h]) (fun j c h => by rw [hn j c h, hbotM]) (fun k hk => by rw [hf k hk, hbotM]),
    sum_blocks i (fun k => Ideal.exp (f k - top f) * v k) (fun j c => Ideal.exp (s j c - top f) * w j c)
      (fun j c h => by rw [hs j c h, hw j c h]) (fun j c h => by rw [hn j c h, hbotM, zero_mul])
      (fun k hk => by rw [hf k hk, hbotM, zero_mul]), hL, Ideal.div_coe hpos.ne', sum_mul_real _ _ (by positivity)]
  refine Finset.sum_congr rfl fun k _ => ?_
  rw [Ideal.div_coe hpos.ne', mul_comm (v k), mul_right_comm]

end Cert.Attn

end
-- ==== Proof.AttnScore.lean ====
/- The masked scores of the attention, and one block of queries against the three blocks of keys that it can see. -/
module

public import proofs.«01_k».proof.Proof.AttnSum
public import proofs.«01_k».proof.Proof.AttnWords

@[expose] public section

set_option maxRecDepth 16384

noncomputable section

namespace Cert.Attn

open Idealize.ShloMosaic

/-- The inner product of head `h`'s query `q` and key `k` in sequence `b`, from the projected columns `u`. -/
def dots (u : FVec Ideal ⟨3, ![16, 2048, 5120]⟩ .bf16) (b : Fin 16) (h : Fin 8) (q k : Fin 2048) : EReal :=
  ∑ e : Fin 64, u (ix3 b q ⟨h.val * 64 + e.val, by omega⟩) * u (ix3 b k ⟨512 + (h.val * 64 + e.val), by omega⟩)

/-- The masked score of head `h`'s query `q` and key `k` in sequence `b`: with the bias of their distance from the table `x`,
    and minus infinity when the key's chunk is not one of the nine that the query sees. -/
def score (u : FVec Ideal ⟨3, ![16, 2048, 5120]⟩ .bf16) (x : FVec Ideal ⟨2, ![257, 8]⟩ .f32) (b : Fin 16) (h : Fin 8)
    (q k : Fin 2048) : EReal :=
  if k.val / 64 ≤ q.val / 64 ∧ q.val / 64 ≤ k.val / 64 + 8 then
    dots u b h q k + x (ix2 (row (IntOp.subi (BitVec.ofNat 32 q.val) (BitVec.ofNat 32 k.val))) h)
  else ⊥

/-- The values of component `d` of head `h` in sequence `b`. -/
def value (u : FVec Ideal ⟨3, ![16, 2048, 5120]⟩ .bf16) (b : Fin 16) (h : Fin 8) (d : Fin 64) (k : Fin 2048) : EReal :=
  u (ix3 b k ⟨1024 + (h.val * 64 + d.val), by omega⟩)

/-- Key `c` of the `j`-th block of the three that end with block `i`; of the first block where there is none. -/
def key (i : Fin 8) (j : Fin 3) (c : Fin 256) : Fin 2048 := ⟨(i.val + j.val - 2) * 256 + c.val, by omega⟩

/-- Head `h`'s bias of row `r` and column `k` of the three blocks, minus infinity where the row's query does not see the key. -/
def bias (x : FVec Ideal ⟨2, ![257, 8]⟩ .f32) (h : Fin 8) (r : Fin 256) (k : Fin 768) : EReal :=
  if r.val / 64 ≤ k.val / 64 ∧ k.val / 64 ≤ r.val / 64 + 8
    then x (ix2 (row (IntOp.subi (IntOp.addi (BitVec.ofNat 32 r.val) 512#32) (BitVec.ofNat 32 k.val))) h) else ⊥

/-- The score of row `r` of block `i` and column `c` of the `j`-th of the three blocks: minus infinity where the block is not
    there. -/
def blockScore (u : FVec Ideal ⟨3, ![16, 2048, 5120]⟩ .bf16) (x : FVec Ideal ⟨2, ![257, 8]⟩ .f32) (b : Fin 16) (h : Fin 8)
    (i : Fin 8) (r : Fin 256) (j : Fin 3) (c : Fin 256) : EReal :=
  dots u b h ⟨i.val * 256 + r.val, by omega⟩ (key i j c) + bias x h r ⟨j.val * 256 + c.val, by omega⟩
    + if 2 ≤ i.val + j.val then 0 else ⊥

/-- The inner product of real columns is real. -/
theorem dots_real (u : FVec Ideal ⟨3, ![16, 2048, 5120]⟩ .bf16)
    (hu : ∀ b q (y : Fin 5120), y.val < 1024 → ∃ r : ℝ, u (ix3 b q y) = (r : EReal)) (b : Fin 16) (h : Fin 8)
    (q k : Fin 2048) : ∃ r : ℝ, dots u b h q k = (r : EReal) := by
  have hq : ∀ e : Fin 64, ∃ r : ℝ, u (ix3 b q ⟨h.val * 64 + e.val, by omega⟩) = (r : EReal) :=
    fun e => hu _ _ _ (by show h.val * 64 + e.val < 1024; omega)
  have hk : ∀ e : Fin 64, ∃ r : ℝ, u (ix3 b k ⟨512 + (h.val * 64 + e.val), by omega⟩) = (r : EReal) :=
    fun e => hu _ _ _ (by show 512 + (h.val * 64 + e.val) < 1024; omega)
  choose p hp using hq
  choose s hs using hk
  refine ⟨∑ e, p e * s e, ?_⟩
  rw [← sum_real]
  exact Finset.sum_congr rfl fun e _ => by rw [hp, hs, EReal.coe_mul]

/-- For real queries, keys and biases, the quotient over the three blocks that row `r` of block `i` can see is the softmax
    average over all keys. -/
theorem block_eq (u : FVec Ideal ⟨3, ![16, 2048, 5120]⟩ .bf16) (x : FVec Ideal ⟨2, ![257, 8]⟩ .f32)
    (hu : ∀ b q (y : Fin 5120), y.val < 1024 → ∃ r : ℝ, u (ix3 b q y) = (r : EReal))
    (hx : ∀ a h, ∃ r : ℝ, x (ix2 a h) = (r : EReal)) (b : Fin 16) (h : Fin 8) (i : Fin 8) (r : Fin 256) (d : Fin 64) :
    quot (blockScore u x b h i r 0) (blockScore u x b h i r 1) (blockScore u x b h i r 2)
        (fun c => value u b h d (key i 0 c)) (fun c => value u b h d (key i 1 c)) (fun c => value u b h d (key i 2 c))
      = soft (score u x b h ⟨i.val * 256 + r.val, by omega⟩) (value u b h d) := by
  have hreal : ∀ q k : Fin 2048, (k.val / 64 ≤ q.val / 64 ∧ q.val / 64 ≤ k.val / 64 + 8) →
      ∃ y : ℝ, score u x b h q k = (y : EReal) := by
    intro q k hk
    obtain ⟨y, hy⟩ := dots_real u hu b h q k
    obtain ⟨z, hz⟩ := hx (row (IntOp.subi (BitVec.ofNat 32 q.val) (BitVec.ofNat 32 k.val))) h
    exact ⟨y + z, by rw [score, if_pos hk, hy, hz, EReal.coe_add]⟩
  refine quot_eq_soft i _ _ (blockScore u x b h i r) (fun j c => value u b h d (key i j c)) ?_ ?_ ?_ ?_ ?_ ?_
  · intro j c hj
    have hiff : (r.val / 64 ≤ (j.val * 256 + c.val) / 64 ∧ (j.val * 256 + c.val) / 64 ≤ r.val / 64 + 8)
        ↔ (((i.val + j.val - 2) * 256 + c.val) / 64 ≤ (i.val * 256 + r.val) / 64
          ∧ (i.val * 256 + r.val) / 64 ≤ ((i.val + j.val - 2) * 256 + c.val) / 64 + 8) := by omega
    have hd := dist_eq r.val (j.val * 256 + c.val) i.val ((i.val + j.val - 2) * 256 + c.val) r.isLt (by omega) i.isLt (by omega)
    simp only [blockScore, bias, score, key, pos, if_pos hj, add_zero, hiff, hd]
    split_ifs with hv
    · rfl
    · exact EReal.add_bot _
  · intro j c hj; rfl
  · intro j c hj
    rw [blockScore, if_neg (by omega)]
    exact EReal.add_bot _
  · intro k hk
    rw [score, if_neg]
    show ¬ (k.val / 64 ≤ (i.val * 256 + r.val) / 64 ∧ (i.val * 256 + r.val) / 64 ≤ k.val / 64 + 8)
    omega
  · intro k hk
    by_cases hv : k.val / 64 ≤ (i.val * 256 + r.val) / 64 ∧ (i.val * 256 + r.val) / 64 ≤ k.val / 64 + 8
    · obtain ⟨y, hy⟩ := hreal ⟨i.val * 256 + r.val, by omega⟩ k hv
      rw [hy] at hk
      exact EReal.coe_ne_top y hk
    · rw [score, if_neg hv] at hk
      exact absurd hk bot_ne_top
  · obtain ⟨y, hy⟩ := hreal ⟨i.val * 256 + r.val, by omega⟩ ⟨i.val * 256 + r.val, by omega⟩ ⟨le_rfl, by omega⟩
    exact ⟨_, by rw [hy]; exact EReal.coe_ne_bot y⟩

end Cert.Attn

end
-- ==== Proof.AttnPoint.lean ====
/- What a visit of the attention kernel writes. -/
module

public import proofs.«01_k».proof.Proof.AttnBlocks
public import proofs.«01_k».proof.Proof.AttnHead
public import proofs.«01_k».proof.Proof.AttnScore

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)
open Cert.Attn

variable (m : (ℓ : Loc nD τ sig) → Buf (Elt Ideal) ℓ)

/-- The result: of every query, head and component the softmax average of the values. -/
def RES (u : FVec Ideal ⟨3, ![16, 2048, 5120]⟩ .bf16) (x : FVec Ideal ⟨2, ![257, 8]⟩ .f32) : FVec Ideal S16x2048x512 .bf16 :=
  fun y => soft (score u x (y 0) ⟨(y 2).val / 64, by have : (y 2).val < 512 := (y 2).isLt; omega⟩ (y 1))
    (value u (y 0) ⟨(y 2).val / 64, by have : (y 2).val < 512 := (y 2).isLt; omega⟩ ⟨(y 2).val % 64, by omega⟩)

/-- An entry of the result by its head and component. -/
theorem res_apply (u : FVec Ideal ⟨3, ![16, 2048, 5120]⟩ .bf16) (x : FVec Ideal ⟨2, ![257, 8]⟩ .f32) (b : Fin 16) (h : Fin 8)
    (q : Fin 2048) (d : Fin 64) (y : Fin 512) (hy : y.val = h.val * 64 + d.val) :
    RES u x (ix3 b q y) = soft (score u x b h q) (value u b h d) := by
  have eh : (⟨y.val / 64, by omega⟩ : Fin 8) = h := Fin.ext (by show y.val / 64 = h.val; omega)
  have ed : (⟨y.val % 64, by omega⟩ : Fin 64) = d := Fin.ext (by show y.val % 64 = d.val; omega)
  show soft (score u x b ⟨y.val / 64, _⟩ q) (value u b ⟨y.val / 64, _⟩ ⟨y.val % 64, _⟩) = _
  rw [eh, ed]

/-- The penalty of the first of the three blocks. -/
theorem pen0 (t : Fin cfg0.N) : k0_pay2 (F := Ideal) (grid0.coords t) = if 2 ≤ t.val % 8 then (0 : EReal) else ⊥ := by
  have key : ∀ n : Fin 8, IntOp.cmpi .sge (BitVec.ofNat 32 n.val) 2#32 = if 2 ≤ n.val then 1#1 else 0#1 := by decide
  have h := key ⟨t.val % 8, by omega⟩
  unfold k0_pay2
  dsimp only
  rw [IdealRules.named_const.ideal_named_scalar _ _ _ _ rfl, (idx t).2.2.2.2.2.2.2.2.2, Scalar.cmpi, h]
  split_ifs <;> simp [Scalar.select, Scalar.ofBits, Ideal.ofBits, Ideal.ieee]

/-- The penalty of the second of the three blocks. -/
theorem pen1 (t : Fin cfg0.N) : k0_pay3 (F := Ideal) (grid0.coords t) = if 2 ≤ t.val % 8 + 1 then (0 : EReal) else ⊥ := by
  have key : ∀ n : Fin 8, IntOp.cmpi .sge (BitVec.ofNat 32 n.val) 1#32 = if 2 ≤ n.val + 1 then 1#1 else 0#1 := by decide
  have h := key ⟨t.val % 8, by omega⟩
  unfold k0_pay3
  dsimp only
  rw [IdealRules.named_const.ideal_named_scalar _ _ _ _ rfl, (idx t).2.2.2.2.2.2.2.2.2, Scalar.cmpi, h]
  split_ifs <;> simp [Scalar.select, Scalar.ofBits, Ideal.ofBits, Ideal.ieee]

/-- Head `h` of a visit's block, from what its loads read. -/
theorem head_eq (c : Dev nD) (hu : ∀ b q (y : Fin 5120), y.val < 1024 → ∃ r : ℝ, U m c (ix3 b q y) = (r : EReal))
    (hx : ∀ a h, ∃ r : ℝ, RB m c (ix2 a h) = (r : EReal)) (t : Fin cfg0.N) (h : Fin 8)
    (q k0 k1 k2 v0 v1 v2 : FVec Ideal S1x256x64 .bf16) (b0 b1 b2 : FVec Ideal S1x256x256 .f32)
    (hq : ∀ (r : Fin 256) (e : Fin 64), q (ix3 0 r e) = iblk m c 0 t (ix3 0 r ⟨h.val * 64 + e.val, by omega⟩))
    (hk0 : ∀ (r : Fin 256) (e : Fin 64), k0 (ix3 0 r e) = iblk m c 1 t (ix3 0 r ⟨h.val * 64 + e.val, by omega⟩))
    (hk1 : ∀ (r : Fin 256) (e : Fin 64), k1 (ix3 0 r e) = iblk m c 2 t (ix3 0 r ⟨h.val * 64 + e.val, by omega⟩))
    (hk2 : ∀ (r : Fin 256) (e : Fin 64), k2 (ix3 0 r e) = iblk m c 3 t (ix3 0 r ⟨h.val * 64 + e.val, by omega⟩))
    (hv0 : ∀ (r : Fin 256) (e : Fin 64), v0 (ix3 0 r e) = iblk m c 4 t (ix3 0 r ⟨h.val * 64 + e.val, by omega⟩))
    (hv1 : ∀ (r : Fin 256) (e : Fin 64), v1 (ix3 0 r e) = iblk m c 5 t (ix3 0 r ⟨h.val * 64 + e.val, by omega⟩))
    (hv2 : ∀ (r : Fin 256) (e : Fin 64), v2 (ix3 0 r e) = iblk m c 6 t (ix3 0 r ⟨h.val * 64 + e.val, by omega⟩))
    (hb0 : ∀ (r k : Fin 256), b0 (ix3 0 r k) = iblk m c 7 t (ix3 h r ⟨k.val, by omega⟩))
    (hb1 : ∀ (r k : Fin 256), b1 (ix3 0 r k) = iblk m c 7 t (ix3 h r ⟨256 + k.val, by omega⟩))
    (hb2 : ∀ (r k : Fin 256), b2 (ix3 0 r k) = iblk m c 7 t (ix3 h r ⟨512 + k.val, by omega⟩))
    (y : S1x256x512.Idx) (z : S1x256x64.Idx) (h1 : (y 1).val = (z 1).val) (h2 : (y 2).val = h.val * 64 + (z 2).val) :
    HEAD (F := Ideal) (k0_pay2 (grid0.coords t)) (k0_pay3 (grid0.coords t)) q k0 k1 k2 v0 v1 v2 b0 b1 b2 z
      = RES (U m c) (RB m c) (ix3 ⟨t.val / 8, by have : t.val < 128 := t.isLt; omega⟩
          ⟨t.val % 8 * 256 + (y 1).val, by have : (y 1).val < 256 := (y 1).isLt; omega⟩ (y 2)) := by
  idx_vars z
  obtain rfl : z0 = 0 := Subsingleton.elim _ _
  have e1 : (y 1).val = z1.val := h1
  have e2 : (y 2).val = h.val * 64 + z2.val := h2
  have hb := block_eq (U m c) (RB m c) hu hx ⟨t.val / 8, by have : t.val < 128 := t.isLt; omega⟩ h
    ⟨t.val % 8, by omega⟩ z1 z2
  refine (head_apply _ _ _ _ _ _ _ _ _ _ _ _ z1 z2).trans (Eq.trans ?_ (hb.trans ?_))
  · simp only [hq, hk0, hk1, hk2, hv0, hv1, hv2, hb0, hb1, hb2, blk0, blk1, blk2, blk3, blk4, blk5, blk6, blk7, pen0, pen1, bias_apply]
    congr 1 <;> funext k <;> simp [blockScore, Cert.Attn.key, bias, value, dots]
  · rw [res_apply _ _ _ h _ z2 _ e2]
    simp only [e1]

/-- What a visit writes. -/
theorem point (c : Dev nD) (hu : ∀ b q (y : Fin 5120), y.val < 1024 → ∃ r : ℝ, U m c (ix3 b q y) = (r : EReal))
    (hx : ∀ a h, ∃ r : ℝ, RB m c (ix2 a h) = (r : EReal)) (t : Fin cfg0.N) (y : S1x256x512.Idx) :
    out0_8 (grid0.coords t) (iblk m c 0 t) (iblk m c 1 t) (iblk m c 2 t) (iblk m c 3 t) (iblk m c 4 t) (iblk m c 5 t)
        (iblk m c 6 t) (iblk m c 7 t) y
      = RES (U m c) (RB m c) (ix3 ⟨t.val / 8, by have : t.val < 128 := t.isLt; omega⟩
          ⟨t.val % 8 * 256 + (y 1).val, by have : (y 1).val < 256 := (y 1).isLt; omega⟩ (y 2)) := by
  unfold_out out0_8
  have visit := fun h : Fin 8 => head_eq m c hu hx t h
  canon_tiles y h
  case piece0 => refine visit 7 _ _ _ _ _ _ _ _ _ _ ?_ ?_ ?_ ?_ ?_ ?_ ?_ ?_ ?_ ?_ _ _ h1 h2 <;> (intro r e; pointwise)
  case piece1 => refine visit 6 _ _ _ _ _ _ _ _ _ _ ?_ ?_ ?_ ?_ ?_ ?_ ?_ ?_ ?_ ?_ _ _ h1 h2 <;> (intro r e; pointwise)
  case piece2 => refine visit 5 _ _ _ _ _ _ _ _ _ _ ?_ ?_ ?_ ?_ ?_ ?_ ?_ ?_ ?_ ?_ _ _ h1 h2 <;> (intro r e; pointwise)
  case piece3 => refine visit 4 _ _ _ _ _ _ _ _ _ _ ?_ ?_ ?_ ?_ ?_ ?_ ?_ ?_ ?_ ?_ _ _ h1 h2 <;> (intro r e; pointwise)
  case piece4 => refine visit 3 _ _ _ _ _ _ _ _ _ _ ?_ ?_ ?_ ?_ ?_ ?_ ?_ ?_ ?_ ?_ _ _ h1 h2 <;> (intro r e; pointwise)
  case piece5 => refine visit 2 _ _ _ _ _ _ _ _ _ _ ?_ ?_ ?_ ?_ ?_ ?_ ?_ ?_ ?_ ?_ _ _ h1 h2 <;> (intro r e; pointwise)
  case piece6 => unfold k0_pay16 k0_pay14 k0_pay15; refine visit 1 _ _ _ _ _ _ _ _ _ _ ?_ ?_ ?_ ?_ ?_ ?_ ?_ ?_ ?_ ?_ _ _ h1 (by rw [h2]; rfl) <;> (intro r e; pointwise)
  case piece7 => refine visit 0 _ _ _ _ _ _ _ _ _ _ ?_ ?_ ?_ ?_ ?_ ?_ ?_ ?_ ?_ ?_ _ _ h1 (by rw [h2]; exact (Nat.zero_add _).symm) <;> (intro r e; pointwise)

end Cert.KernelIdeal.Attn

end
-- ==== Proof.AttnReference.lean ====
/- What the reference's attention computes, entry by entry. -/
module

public import Idealize.ShloMosaic.Lib.Pipeline.ValueKit
public import Idealize.ShloMosaic.Lib.Claim
public import proofs.«01_k».proof.Proof.Gen.ReferenceIdeal.Run
public import proofs.«01_k».proof.Proof.AttnWords
public import proofs.«01_k».proof.Proof.AttnTerm

@[expose] public section

set_option maxRecDepth 16384

noncomputable section

namespace Cert.ReferenceIdeal.Attn

open Cert.ReferenceIdeal Cert.ReferenceIdeal.Gen Idealize.ShloMosaic Idealize.ShloMosaic.TcCoe Idealize.SL.Sem
open Cert.Attn

/-- The queries' positions. -/
def QPOS : IVec S2048x1 32 := broadcastInDim S2048x1 ![0] bcast_S2048_S2048x1_0 (iotaInDim S2048 32 0)

/-- The keys' positions. -/
def KPOS : IVec S1x2048 32 := broadcastInDim S1x2048 ![1] bcast_S2048_S1x2048_1 (iotaInDim S2048 32 0)

/-- The distances of the queries from the keys. -/
def DIST : IVec S2048x2048 32 :=
  subi (broadcastInDim S2048x2048 ![0, 1] bcast_S2048x1_S2048x2048_0_1 QPOS)
    (broadcastInDim S2048x2048 ![0, 1] bcast_S1x2048_S2048x2048_0_1 KPOS)

/-- Which keys a query may see. -/
def VALID : IVec S2048x2048 1 :=
  andi
    (cmpi .sle (broadcastInDim S2048x2048 ![0, 1] bcast_S1x2048_S2048x2048_0_1 (floor64 bcast_S_S1x2048 KPOS))
      (broadcastInDim S2048x2048 ![0, 1] bcast_S2048x1_S2048x2048_0_1 (floor64 bcast_S_S2048x1 QPOS)))
    (cmpi .sge (broadcastInDim S2048x2048 ![0, 1] bcast_S1x2048_S2048x2048_0_1 (floor64 bcast_S_S1x2048 KPOS))
      (broadcastInDim S2048x2048 ![0, 1] bcast_S2048x1_S2048x2048_0_1
        (subi (floor64 bcast_S_S2048x1 QPOS) (broadcastInDim S2048x1 ![] bcast_S_S2048x1 (constantI S_ 32 8#32)))))

/-- The biases of all heads, queries and keys, from the table `x`. -/
def TABLE (x : FVec Ideal S257x8 .f32) : FVec Ideal S2048x2048x8 .f32 :=
  Host.gather gather_S257x8_S2048x2048x1_S2048x2048x8_2_0_n_n_0_2_18 x
    (broadcastInDim S2048x2048x1 ![0, 1] bcast_S2048x2048_S2048x2048x1_0_1 (starts bcast_S_S2048x2048 DIST))

/-- The masked scores, from the projected columns `u`, the tests `valid` and the biases `z`. -/
def SCORE (u : FVec Ideal S16x2048x5120 .bf16) (valid : IVec S2048x2048 1) (z : FVec Ideal S2048x2048x8 .f32) :
    FVec Ideal S16x8x2048x2048 .f32 :=
  select
    (broadcastInDim S16x8x2048x2048 ![0, 1, 2, 3] bcast_S1x1x2048x2048_S16x8x2048x2048_0_1_2_3
      (broadcastInDim S1x1x2048x2048 ![2, 3] bcast_S2048x2048_S1x1x2048x2048_2_3 valid))
    (addf
      (Host.dotGeneral dot_S16x2048x8x64_S16x2048x8x64_S16x8x2048x2048_3_3_1_1_02_02 none
        (shapeCast S16x2048x8x64 (extf .f32 (extractStridedSlice S16x2048x512 ![0, 0, 0] u slices_S16x2048x5120_S16x2048x512_0_0_0) bitsLt_bf16_f32) shapeCasts_S16x2048x512_S16x2048x8x64)
        (shapeCast S16x2048x8x64 (extf .f32 (extractStridedSlice S16x2048x512 ![0, 0, 512] u slices_S16x2048x5120_S16x2048x512_0_0_512) bitsLt_bf16_f32) shapeCasts_S16x2048x512_S16x2048x8x64))
      (broadcastInDim S16x8x2048x2048 ![0, 1, 2, 3] bcast_S1x8x2048x2048_S16x8x2048x2048_0_1_2_3
        (broadcastInDim S1x8x2048x2048 ![1, 2, 3] bcast_S8x2048x2048_S1x8x2048x2048_1_2_3
          (transpose S8x2048x2048 [2, 0, 1] z transposes_S2048x2048x8_S8x2048x2048_2_0_1))))
    (broadcastInDim S16x8x2048x2048 ![] bcast_S_S16x8x2048x2048 (id (constant S_ .f32 0xFF800000#32)))

/-- The largest score of every row. -/
def MAXI (s : FVec Ideal S16x8x2048x2048 .f32) : FVec Ideal S16x8x2048 .f32 :=
  maximumf (broadcastInDim S16x8x2048 ![] bcast_S_S16x8x2048 (constant S_ .f32 0xFF800000#32))
    (Host.reduce FloatOps.maximumf s (constant S_ .f32 0xFF800000#32) reducesTo_S16x8x2048x2048_S16x8x2048_d3 h_S_)

/-- The exponentials of the scores less their rows' `t`. -/
def EXPO (s : FVec Ideal S16x8x2048x2048 .f32) (t : FVec Ideal S16x8x2048 .f32) : FVec Ideal S16x8x2048x2048 .f32 :=
  Host.exp (subf s (broadcastInDim S16x8x2048x2048 ![0, 1, 2, 3] bcast_S16x8x2048x1_S16x8x2048x2048_0_1_2_3
    (broadcastInDim S16x8x2048x1 ![0, 1, 2] bcast_S16x8x2048_S16x8x2048x1_0_1_2 t)))

/-- Every row's sum of the exponentials `e`. -/
def TOTAL (e : FVec Ideal S16x8x2048x2048 .f32) : FVec Ideal S16x8x2048 .f32 :=
  Host.reduceAdd e (constant S_ .f32 0x00000000#32) reducesTo_S16x8x2048x2048_S16x8x2048_d3 h_S_

/-- The exponentials `e` divided by their rows' `t`. -/
def WEIGHT (e : FVec Ideal S16x8x2048x2048 .f32) (t : FVec Ideal S16x8x2048 .f32) : FVec Ideal S16x8x2048x2048 .f32 :=
  Host.divf e (broadcastInDim S16x8x2048x2048 ![0, 1, 2, 3] bcast_S16x8x2048x1_S16x8x2048x2048_0_1_2_3
    (broadcastInDim S16x8x2048x1 ![0, 1, 2] bcast_S16x8x2048_S16x8x2048x1_0_1_2 t))

/-- The values averaged with the weights `p`. -/
def AVERAGE (u : FVec Ideal S16x2048x5120 .bf16) (p : FVec Ideal S16x8x2048x2048 .f32) : FVec Ideal S16x8x64x2048 .f32 :=
  Host.dotGeneral dot_S16x2048x8x64_S16x8x2048x2048_S16x8x64x2048_1_3_3_2_02_01 none
    (shapeCast S16x2048x8x64 (extf .f32 (extractStridedSlice S16x2048x512 ![0, 0, 1024] u slices_S16x2048x5120_S16x2048x512_0_0_1024) bitsLt_bf16_f32) shapeCasts_S16x2048x512_S16x2048x8x64)
    p

/-- The heads' averages side by side. -/
def JOIN (a : FVec Ideal S16x8x64x2048 .f32) : FVec Ideal S16x2048x512 .bf16 :=
  truncf .bf16 (shapeCast S16x2048x512 (transpose S16x2048x8x64 [0, 3, 1, 2] a
    transposes_S16x8x64x2048_S16x2048x8x64_0_3_1_2) shapeCasts_S16x2048x8x64_S16x2048x512) bitsLt_bf16_f32

/-- The attention with the scores `s`. -/
def OUT (u : FVec Ideal S16x2048x5120 .bf16) (s : FVec Ideal S16x8x2048x2048 .f32) : FVec Ideal S16x2048x512 .bf16 :=
  JOIN (AVERAGE u (WEIGHT (EXPO s (MAXI s)) (TOTAL (EXPO s (MAXI s)))))

/-- The reference's result is that attention. -/
theorem res_eq (m : (ℓ : Loc nD τ sig) → Buf (Elt Ideal) ℓ) (c : Dev nD) :
    Value.res_main_v58 m c = OUT (m ((c.tc : Thread nD τ).loc main_arg0))
      (SCORE (m ((c.tc : Thread nD τ).loc main_arg0)) VALID (TABLE (m ((c.tc : Thread nD τ).loc main_arg1)))) := by
  unfold Value.res_main_v58; rfl

/-- A query's and a key's test. -/
theorem valid_apply (q k : Fin 2048) :
    VALID (ix2 q k) = if k.val / 64 ≤ q.val / 64 ∧ q.val / 64 ≤ k.val / 64 + 8 then 1#1 else 0#1 := by
  rw [← valid_eq]; pointwise [VALID, QPOS, KPOS, floor64_apply]

/-- Head `h`'s bias of query `q` and key `k`. -/
theorem table_apply (x : FVec Ideal S257x8 .f32) (q k : Fin 2048) (h : Fin 8) :
    TABLE x (ix3 q k h) = x (ix2 (row (IntOp.subi (BitVec.ofNat 32 q.val) (BitVec.ofNat 32 k.val))) h) := by
  refine (rows_apply _ x _ q k h).trans ?_
  congr 2

/-- Head `h`'s masked score of query `q` and key `k` in sequence `b`. -/
theorem score_apply (u : FVec Ideal S16x2048x5120 .bf16) (valid : IVec S2048x2048 1) (z : FVec Ideal S2048x2048x8 .f32)
    (b : Fin 16) (h : Fin 8) (q k : Fin 2048) :
    SCORE u valid z (ix4 b h q k)
      = Scalar.select (valid (ix2 q k))
          (∑ e : Fin 64, u (ix3 b q ⟨h.val * 64 + e.val, by omega⟩) * u (ix3 b k ⟨512 + (h.val * 64 + e.val), by omega⟩)
            + z (ix3 q k h)) ⊥ := by
  have hm : Ideal.ofBits .f32 0xFF800000#32 = ⊥ := by simp [Ideal.ofBits, Ideal.ieee]
  rw [← hm]
  pointwise [SCORE]
  rfl

/-- A maximum with minus infinity of the maximum over the last of four axes, read at an index. -/
theorem reduce_apply {n0 n1 n2 n3 : ℕ} (v : FVec Ideal ⟨4, ![n0, n1, n2, n3]⟩ .f32)
    (hb : (⟨0, ![]⟩ : Shape).BroadcastsInDim ⟨3, ![n0, n1, n2]⟩ (![] : Fin 0 → Fin 3))
    (h : (⟨4, ![n0, n1, n2, n3]⟩ : Shape).ReducesTo [3] ⟨3, ![n0, n1, n2]⟩) (hu : 0 < (⟨0, ![]⟩ : Shape).numel)
    (a : Fin n0) (b : Fin n1) (q : Fin n2) :
    maximumf (broadcastInDim ⟨3, ![n0, n1, n2]⟩ ![] hb (constant (F := Ideal) ⟨0, ![]⟩ .f32 0xFF800000#32))
        (Host.reduce FloatOps.maximumf v (constant ⟨0, ![]⟩ .f32 0xFF800000#32) h hu) (ix3 a b q)
      = top fun k : Fin n3 => v (ix4 a b q k) := by
  have hm : Ideal.ofBits .f32 0xFF800000#32 = ⊥ := by simp [Ideal.ofBits, Ideal.ieee]
  pointwise []
  simp only [hm]
  exact max_eq_right bot_le

/-- A row's largest score. -/
theorem maxi_apply (s : FVec Ideal S16x8x2048x2048 .f32) (b : Fin 16) (h : Fin 8) (q : Fin 2048) :
    MAXI s (ix3 b h q) = top fun k => s (ix4 b h q k) := by
  unfold MAXI
  exact reduce_apply s bcast_S_S16x8x2048 reducesTo_S16x8x2048x2048_S16x8x2048_d3 h_S_ b h q

/-- An entry of the exponentials. -/
theorem expo_apply (s : FVec Ideal S16x8x2048x2048 .f32) (t : FVec Ideal S16x8x2048 .f32) (b : Fin 16) (h : Fin 8)
    (q k : Fin 2048) : EXPO s t (ix4 b h q k) = Ideal.exp (s (ix4 b h q k) - t (ix3 b h q)) := by
  pointwise [EXPO]

/-- A row's sum. -/
theorem total_apply (e : FVec Ideal S16x8x2048x2048 .f32) (b : Fin 16) (h : Fin 8) (q : Fin 2048) :
    TOTAL e (ix3 b h q) = ∑ k : Fin 2048, e (ix4 b h q k) := by
  pointwise [TOTAL]

/-- An entry of the weights. -/
theorem weight_apply (e : FVec Ideal S16x8x2048x2048 .f32) (t : FVec Ideal S16x8x2048 .f32) (b : Fin 16) (h : Fin 8)
    (q k : Fin 2048) : WEIGHT e t (ix4 b h q k) = Ideal.div (e (ix4 b h q k)) (t (ix3 b h q)) := by
  pointwise [WEIGHT]

/-- An entry of the averages. -/
theorem average_apply (u : FVec Ideal S16x2048x5120 .bf16) (p : FVec Ideal S16x8x2048x2048 .f32) (b : Fin 16) (h : Fin 8)
    (q : Fin 2048) (d : Fin 64) :
    AVERAGE u p (ix4 b h d q) = ∑ k : Fin 2048, u (ix3 b k ⟨1024 + (h.val * 64 + d.val), by omega⟩) * p (ix4 b h q k) := by
  pointwise [AVERAGE]

/-- An entry of the result. -/
theorem join_apply (a : FVec Ideal S16x8x64x2048 .f32) (b : Fin 16) (h : Fin 8) (q : Fin 2048) (d : Fin 64) (y : Fin 512)
    (hy : y.val = h.val * 64 + d.val) : JOIN a (ix3 b q y) = a (ix4 b h d q) := by
  pointwise [JOIN]
  congr 1
  blk_ext

/-- Component `d` of head `h` of query `q`'s result: the softmax average of the values. -/
theorem out_apply (u : FVec Ideal S16x2048x5120 .bf16) (s : FVec Ideal S16x8x2048x2048 .f32)
    (b : Fin 16) (h : Fin 8) (q : Fin 2048) (d : Fin 64) (y : Fin 512) (hy : y.val = h.val * 64 + d.val) :
    OUT u s (ix3 b q y) = soft (fun k => s (ix4 b h q k)) (fun k => u (ix3 b k ⟨1024 + (h.val * 64 + d.val), by omega⟩)) := by
  simp only [OUT, join_apply _ b h q d y hy, average_apply, weight_apply, total_apply, expo_apply, maxi_apply]
  rfl

end Cert.ReferenceIdeal.Attn

end
-- ==== Proof.AttnValue.lean ====
/- The attention kernel's result is the array the reference returns, for finite inputs. -/
module

public import proofs.«01_k».proof.Proof.AttnPoint
public import proofs.«01_k».proof.Proof.AttnReference
public import proofs.«01_k».proof.Pre_finite_inputs

@[expose] public section

set_option maxRecDepth 16384

noncomputable section

namespace Cert.Pre_finite_inputs

open Idealize.ShloMosaic

/-- The side conditions of the precondition's operations. -/
instance facts : Facts where
  slices_S16x2048x5120_S16x2048x1024_0_0_0 := by decide
  bitsLt_bf16_f32 := by decide
  bcast_S_S16x2048x1024 := by decide
  bcast_S_S257x8 := by decide

/-- An extended real below infinity in magnitude is real. -/
theorem real_of_abs (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  have hlt : max x (-x) < ⊤ := by
    by_contra hn
    rw [htop] at h
    simp [Ideal.cmp, hn] at h
  induction x with
  | bot => simp at hlt
  | top => simp at hlt
  | coe r => exact ⟨r, rfl⟩

/-- Finite projected columns are real. -/
theorem columns_real (u : FVec Ideal S16x2048x5120 .bf16) (x : FVec Ideal S257x8 .f32)
    (h : (fn (F := Ideal) u x).1 = fun _ => 1#1) (b : Fin 16) (q : Fin 2048) (y : Fin 5120) (hy : y.val < 1024) :
    ∃ r : ℝ, u (ix3 b q y) = (r : EReal) := by
  refine real_of_abs _ (Eq.trans ?_ (congrFun h (ix3 b q ⟨y.val, hy⟩)))
  pointwise [fn]
  rfl

/-- A finite table of biases is real. -/
theorem table_real (u : FVec Ideal S16x2048x5120 .bf16) (x : FVec Ideal S257x8 .f32)
    (h : (fn (F := Ideal) u x).2 = fun _ => 1#1) (a : Fin 257) (y : Fin 8) : ∃ r : ℝ, x (ix2 a y) = (r : EReal) := by
  refine real_of_abs _ (Eq.trans ?_ (congrFun h (ix2 a y)))
  pointwise [fn]
  rfl

end Cert.Pre_finite_inputs

namespace Cert.KernelIdeal.Attn

open Cert.KernelIdeal Cert.KernelIdeal.Gen Idealize.ShloMosaic Idealize.ShloMosaic.TcCoe Idealize.SL.Sem
open Idealize.ShloMosaic.Pipeline (Dat)
open Cert.Attn

variable (m : (ℓ : Loc nD τ sig) → Buf (Elt Ideal) ℓ)

/-- The result array of the kernel. -/
theorem final8 (c : Dev nD) (hu : ∀ b q (y : Fin 5120), y.val < 1024 → ∃ r : ℝ, U m c (ix3 b q y) = (r : EReal))
    (hx : ∀ a h, ∃ r : ℝ, RB m c (ix2 a h) = (r : EReal)) :
    (dats m 0 c).arrAt 8 cfg0.N = RES (U m c) (RB m c) := by
  refine (dats m 0 c).arrAt_eq_of_covers 8 _ (by decide +kernel) fun t hf y => ?_
  blk_simp
  rw [after0_8]
  refine (point m c hu hx t y).trans ?_
  generalize RES (U m c) (RB m c) = R
  blk_ext [idx t]

/-- The result array of the kernel is the array the reference returns. -/
theorem final (c : Dev nD) (hu : ∀ b q (y : Fin 5120), y.val < 1024 → ∃ r : ℝ, U m c (ix3 b q y) = (r : EReal))
    (hx : ∀ a h, ∃ r : ℝ, RB m c (ix2 a h) = (r : EReal)) :
    (dats m 0 c).arrAt 8 cfg0.N = Cert.ReferenceIdeal.Attn.OUT (U m c)
      (Cert.ReferenceIdeal.Attn.SCORE (U m c) Cert.ReferenceIdeal.Attn.VALID (Cert.ReferenceIdeal.Attn.TABLE (RB m c))) := by
  rw [final8 m c hu hx]
  funext i
  idx_vars i
  have hi : i2.val = (⟨i2.val / 64, by omega⟩ : Fin 8).val * 64 + (⟨i2.val % 64, by omega⟩ : Fin 64).val := by
    show i2.val = i2.val / 64 * 64 + i2.val % 64
    omega
  refine (res_apply _ _ i0 ⟨i2.val / 64, by omega⟩ i1 ⟨i2.val % 64, by omega⟩ i2 hi).trans
    (Eq.trans ?_ (Cert.ReferenceIdeal.Attn.out_apply _ _ i0 ⟨i2.val / 64, by omega⟩ i1 ⟨i2.val % 64, by omega⟩ i2 hi).symm)
  refine congrArg₂ soft (funext fun k => ?_) rfl
  rw [Cert.ReferenceIdeal.Attn.score_apply, Cert.ReferenceIdeal.Attn.valid_apply, Cert.ReferenceIdeal.Attn.table_apply, score]
  split_ifs
  · rfl
  · rfl

end Cert.KernelIdeal.Attn

end
-- ==== Proof.InprojTerm.lean ====
/- The input projection of one row: its normalisation, its products and the norms of its heads. -/
module

public import proofs.«01_k».proof.Proof.AttnSum
public import Idealize.ShloMosaic.Lib.Pipeline.ValueKit

@[expose] public section

set_option maxRecDepth 16384

noncomputable section

namespace Cert.Inproj

open Idealize.ShloMosaic
open Cert.Attn (sum_real)

/-- A row normalised to a root mean square of one and multiplied by the gains. -/
def hrow (x g : Fin 1024 → EReal) (d : Fin 1024) : EReal :=
  x d * Ideal.rsqrt (Ideal.div (∑ k, x k * x k) (Ideal.ofBits .f32 0x44800000#32) + Ideal.ofBits .f32 0x358637BD#32) * g d

/-- The product of a normalised row with a column of weights. -/
def acc (x g w : Fin 1024 → EReal) : EReal := ∑ d, hrow x g d * w d

/-- A head normalised to a root mean square of one. -/
def unit (a : Fin 64 → EReal) (e : Fin 64) : EReal :=
  a e * Ideal.rsqrt (Ideal.div (∑ k, a k * a k) (Ideal.ofBits .f32 0x42800000#32) + Ideal.ofBits .f32 0x358637BD#32)

/-- The same as the kernel computes it, for eight heads side by side: the squares are summed by a product with the column
    `o` of a matrix of ones and zeros, once for the squares and once for what their rounding lost. -/
def kunit (a o : Fin 512 → EReal) (y : Fin 512) : EReal :=
  a y * Ideal.rsqrt ((∑ k, a k * a k * o k + ∑ k, (a k * a k - a k * a k) * o k) * Ideal.ofBits .f32 0x3C800000#32
    + Ideal.ofBits .f32 0x358637BD#32)

theorem ofBits_1024 : Ideal.ofBits .f32 0x44800000#32 = ((1024 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

theorem ofBits_inv_64 : Ideal.ofBits .f32 0x3C800000#32 = ((1 / 64 : ℝ) : EReal) := by
  simp [Ideal.ofBits, Ideal.ieee, -EReal.coe_mul]; norm_num

/-- The small number added to a mean square is a positive real. -/
theorem small : ∃ r : ℝ, 0 < r ∧ Ideal.ofBits .f32 0x358637BD#32 = (r : EReal) := by
  refine ⟨8796093 / 2 ^ 43, by norm_num, ?_⟩
  simp [Ideal.ofBits, Ideal.ieee, -EReal.coe_mul]; norm_num

/-- The reciprocal root of a positive real is real. -/
theorem rsqrt_real (r : ℝ) (hr : 0 < r) : ∃ s : ℝ, Ideal.rsqrt (r : EReal) = (s : EReal) := by
  refine ⟨(Real.sqrt r)⁻¹, ?_⟩
  show (if r < 0 then (⊥ : EReal) else if r = 0 then ⊤ else ((Real.sqrt r)⁻¹ : ℝ)) = _
  rw [if_neg (not_lt.mpr hr.le), if_neg hr.ne']

/-- The reciprocal root of a mean that is infinite is zero. -/
theorem rsqrt_top : Ideal.rsqrt (Ideal.div ⊤ (Ideal.ofBits .f32 0x44800000#32) + Ideal.ofBits .f32 0x358637BD#32) = 0 := by
  obtain ⟨e, he, h⟩ := small
  rw [h, ofBits_1024, Ideal.div_coe (by norm_num), EReal.top_mul_coe_of_pos (by norm_num), EReal.top_add_coe]
  rfl

/-- The squares of a row that is not real sum to infinity. -/
theorem squares_top (x : Fin 1024 → EReal) (hx : ¬ ∀ d, ∃ r : ℝ, x d = (r : EReal)) : ∑ k, x k * x k = ⊤ := by
  obtain ⟨d, hd⟩ := not_forall.mp hx
  have hsq : ∀ z : EReal, 0 ≤ z * z := fun z => by
    rcases le_total 0 z with h | h
    · exact mul_nonneg h h
    · rw [← neg_mul_neg]; exact mul_nonneg (EReal.neg_nonneg.mpr h) (EReal.neg_nonneg.mpr h)
  have ht : x d * x d = ⊤ := by
    generalize x d = z at hd
    induction z with
    | bot => rfl
    | coe r => exact absurd ⟨r, rfl⟩ hd
    | top => rfl
  exact top_le_iff.mp (ht ▸ Finset.single_le_sum (f := fun k => x k * x k) (fun k _ => hsq (x k)) (Finset.mem_univ d))

/-- A normalised row is real for real gains: a row that is not real has an infinite mean square, so that it becomes zero. -/
theorem hrow_real (x g : Fin 1024 → EReal) (hg : ∀ d, ∃ r : ℝ, g d = (r : EReal)) (d : Fin 1024) :
    ∃ r : ℝ, hrow x g d = (r : EReal) := by
  by_cases hx : ∀ d, ∃ r : ℝ, x d = (r : EReal)
  · choose p hp using hx
    choose q hq using hg
    obtain ⟨e, he, h⟩ := small
    have hs : ∑ k, x k * x k = ((∑ k, p k * p k : ℝ) : EReal) := by
      rw [← sum_real]; exact Finset.sum_congr rfl fun k _ => by rw [hp k, EReal.coe_mul]
    have hn : 0 ≤ ∑ k, p k * p k := Finset.sum_nonneg fun k _ => mul_self_nonneg _
    obtain ⟨s, hs'⟩ := rsqrt_real ((∑ k, p k * p k) * (1 / 1024) + e) (by positivity)
    refine ⟨p d * s * q d, ?_⟩
    rw [hrow, hs, h, ofBits_1024, Ideal.div_coe (by norm_num), ← EReal.coe_mul, ← EReal.coe_add, hs', hp, hq, EReal.coe_mul,
      EReal.coe_mul]
  · exact ⟨0, by rw [hrow, squares_top x hx, rsqrt_top, mul_zero, zero_mul, EReal.coe_zero]⟩

/-- Its product with a column of reals is real. -/
theorem acc_real (x g w : Fin 1024 → EReal) (hg : ∀ d, ∃ r : ℝ, g d = (r : EReal))
    (hw : ∀ d, ∃ r : ℝ, w d = (r : EReal)) : ∃ r : ℝ, acc x g w = (r : EReal) := by
  choose p hp using hrow_real x g hg
  choose q hq using hw
  refine ⟨∑ d, p d * q d, ?_⟩
  rw [acc, ← sum_real]
  exact Finset.sum_congr rfl fun d _ => by rw [hp d, hq d, EReal.coe_mul]

/-- For reals the kernel's norm of a head is the head's norm. -/
theorem kunit_eq (a o : Fin 512 → EReal) (h : Fin 8) (e : Fin 64) (y : Fin 512) (hy : y.val = h.val * 64 + e.val)
    (ha : ∀ k, ∃ r : ℝ, a k = (r : EReal)) (ho : ∀ k, o k = if k.val / 64 = y.val / 64 then 1 else 0) :
    kunit a o y = unit (fun k => a ⟨h.val * 64 + k.val, by omega⟩) e := by
  obtain ⟨n, hn⟩ := y
  obtain rfl : n = h.val * 64 + e.val := hy
  have hlow : ∀ k, (a k * a k - a k * a k) * o k = 0 := by
    intro k
    obtain ⟨r, hr⟩ := ha k
    rw [hr, ← EReal.coe_mul, ← EReal.coe_sub, sub_self, EReal.coe_zero, zero_mul]
  have hsum : ∑ k, a k * a k * o k
      = ∑ k : Fin 64, a ⟨h.val * 64 + k.val, by omega⟩ * a ⟨h.val * 64 + k.val, by omega⟩ := by
    rw [Fin.sum_univ_tiles 8 64 rfl]
    refine (Finset.sum_eq_single h (fun b _ hb => ?_) (fun hh => absurd (Finset.mem_univ _) hh)).trans ?_
    · refine Finset.sum_eq_zero fun k _ => ?_
      have hne : b.val ≠ h.val := fun h' => hb (Fin.ext h')
      rw [ho, if_neg (by show ¬ (b.val * 64 + k.val) / 64 = (h.val * 64 + e.val) / 64; omega), mul_zero]
    · refine Finset.sum_congr rfl fun k _ => ?_
      rw [ho, if_pos (by show (h.val * 64 + k.val) / 64 = (h.val * 64 + e.val) / 64; omega), mul_one]
  rw [kunit, unit, hsum, Finset.sum_eq_zero fun k _ => hlow k, add_zero, ofBits_64, ofBits_inv_64, Ideal.div_coe (by norm_num)]

end Cert.Inproj

end
-- ==== Proof.PostTerm.lean ====
/- The merge of a row's branches and its residual sum. -/
module

public import proofs.«01_k».proof.Proof.InprojTerm

@[expose] public section

set_option maxRecDepth 16384

noncomputable section

namespace Cert.Merge

open Idealize.ShloMosaic

/-- A gate `g` times the product of a branch's row `y` with a column `p` of its projection. -/
def branch (g : EReal) (y p : Fin 512 → EReal) : EReal := Ideal.logistic g * ∑ k, y k * p k

/-- The residual entry plus the product of the merged branches with the column `o` of the output projection. -/
def mid (x : EReal) (ga gb : Fin 1024 → EReal) (ya yb : Fin 512 → EReal) (pa pb : Fin 512 → Fin 1024 → EReal)
    (o : Fin 1024 → EReal) : EReal :=
  x + ∑ j, (branch (ga j) ya (fun k => pa k j) + branch (gb j) yb (fun k => pb k j)) * o j

end Cert.Merge

end
-- ==== Proof.PostBlocks.lean ====
/- The rows, the weights and the gains that each visit of the merge reads. -/
module

public import proofs.«01_k».proof.Proof.Gen.PostIdeal.Value
public import proofs.«01_k».proof.Proof.PostTerm
public import Idealize.ShloMosaic.Lib.Pipeline.ValueKit
public import Idealize.ShloMosaic.Lib.Claim

@[expose] public section

set_option maxRecDepth 16384

noncomputable section

namespace Cert.PostIdeal.Merge

open Cert.PostIdeal Cert.PostIdeal.Gen Idealize.ShloMosaic Idealize.ShloMosaic.TcCoe Idealize.SL.Sem
open Idealize.ShloMosaic.Pipeline (Dat)

variable (m : (ℓ : Loc nD τ sig) → Buf (Elt Ideal) ℓ)

/-- The blocks each visit reads and writes: rows by the visit's number, the gates of the two branches in the fourth and the
    fifth thousand of the projected columns, everything else whole. -/
theorem idx : ∀ t : Fin cfg0.N, win0_0.index t = ![t.val, 0] ∧ win0_1.index t = ![t.val, 0] ∧ win0_2.index t = ![t.val, 0]
    ∧ win0_3.index t = ![t.val, 3] ∧ win0_4.index t = ![t.val, 4] ∧ win0_5.index t = ![0, 0] ∧ win0_6.index t = ![0, 0]
    ∧ win0_7.index t = ![0, 0] ∧ win0_8.index t = ![0, 0] ∧ win0_9.index t = ![0, 0]
    ∧ win0_10.index t = ![0, 0] ∧ win0_11.index t = ![t.val, 0] ∧ win0_12.index t = ![t.val, 0]
    ∧ win0_13.index t = ![t.val, 0] :=
  (by decide +kernel : ∀ t : Fin grid0.N, _)

/-- The residual rows. -/
abbrev X (c : Dev nD) : FVec Ideal S32768x1024 .f32 := m ((c : Thread nD τ).loc main_arg0)
/-- The rows of the attention. -/
abbrev YA (c : Dev nD) : FVec Ideal S32768x512 .bf16 := m ((c : Thread nD τ).loc main_arg1)
/-- The rows of the gated linear attention. -/
abbrev YB (c : Dev nD) : FVec Ideal S32768x512 .bf16 := m ((c : Thread nD τ).loc main_arg2)
/-- The projected columns. -/
abbrev U (c : Dev nD) : FVec Ideal S32768x5120 .bf16 := m ((c : Thread nD τ).loc main_arg3)
/-- The projection of the attention's rows. -/
abbrev PA (c : Dev nD) : FVec Ideal S512x1024 .f32 := m ((c : Thread nD τ).loc main_arg4)
/-- The projection of the gated linear attention's rows. -/
abbrev PB (c : Dev nD) : FVec Ideal S512x1024 .f32 := m ((c : Thread nD τ).loc main_arg5)
/-- The output projection. -/
abbrev WO (c : Dev nD) : FVec Ideal S1024x1024 .f32 := m ((c : Thread nD τ).loc main_arg6)
/-- The gains of the norm. -/
abbrev G (c : Dev nD) : FVec Ideal S1024 .f32 := m ((c : Thread nD τ).loc main_arg7)

/-- The router's weights. -/
abbrev WR (c : Dev nD) : FVec Ideal S1024x128 .f32 := m ((c : Thread nD τ).loc main_arg8)
/-- The router's bias. -/
abbrev BR (c : Dev nD) : FVec Ideal S128 .f32 := m ((c : Thread nD τ).loc main_arg9)

/-- The row of the arrays that row `r` of visit `t` is. -/
def at' (t : Fin cfg0.N) (r : Fin 512) : Fin 32768 := ⟨t.val * 512 + r.val, by have : t.val < 64 := t.isLt; omega⟩

/-- A vector of gains as one row. -/
def ROW (g : FVec Ideal S1024 .f32) : FVec Ideal S1x1024 .f32 := broadcastInDim S1x1024 ![1] bcast_S1024_S1x1024_1 g

/-- Its entries. -/
theorem row_apply (g : FVec Ideal S1024 .f32) (k : Fin 1024) : ROW g (ix2 0 k) = g (ix1 k) := by
  pointwise [ROW]

/-- The kernel finds the gains as one row. -/
theorem V_gain (c : Dev nD) : V m c main_v3 = ROW (G m c) := by
  simp only [V, hostOps0, List.flatten_cons, List.flatten_nil, List.append_nil, List.cons_append, List.nil_append]
  entry_read
  rfl

/-- A bias as one row. -/
def BIAS (b : FVec Ideal S128 .f32) : FVec Ideal S1x128 .f32 := broadcastInDim S1x128 ![1] bcast_S128_S1x128_1 b

/-- Its entries. -/
theorem bias_apply (b : FVec Ideal S128 .f32) (l : Fin 128) : BIAS b (ix2 0 l) = b (ix1 l) := by
  pointwise [BIAS]

/-- The kernel finds the bias as one row. -/
theorem V_bias (c : Dev nD) : V m c main_v4 = BIAS (BR m c) := by
  simp only [V, hostOps0, List.flatten_cons, List.flatten_nil, List.append_nil, List.cons_append, List.nil_append]
  entry_read
  rfl

/-- The residual rows of a visit. -/
theorem blk0 (c : Dev nD) (t : Fin cfg0.N) (r : Fin 512) (k : Fin 1024) :
    iblk m c 0 t (ix2 r k) = X m c (ix2 (at' t r) k) := by
  blk_point [iblk, V, idx t, at']

/-- A visit's rows of the attention. -/
theorem blk1 (c : Dev nD) (t : Fin cfg0.N) (r k : Fin 512) : iblk m c 1 t (ix2 r k) = YA m c (ix2 (at' t r) k) := by
  blk_point [iblk, V, idx t, at']

/-- A visit's rows of the gated linear attention. -/
theorem blk2 (c : Dev nD) (t : Fin cfg0.N) (r k : Fin 512) : iblk m c 2 t (ix2 r k) = YB m c (ix2 (at' t r) k) := by
  blk_point [iblk, V, idx t, at']

/-- A visit's gates of the attention. -/
theorem blk3 (c : Dev nD) (t : Fin cfg0.N) (r : Fin 512) (j : Fin 1024) :
    iblk m c 3 t (ix2 r j) = U m c (ix2 (at' t r) ⟨3072 + j.val, by omega⟩) := by
  blk_point [iblk, V, idx t, at']

/-- A visit's gates of the gated linear attention. -/
theorem blk4 (c : Dev nD) (t : Fin cfg0.N) (r : Fin 512) (j : Fin 1024) :
    iblk m c 4 t (ix2 r j) = U m c (ix2 (at' t r) ⟨4096 + j.val, by omega⟩) := by
  blk_point [iblk, V, idx t, at']

/-- The projection of the attention's rows. -/
theorem blk5 (c : Dev nD) (t : Fin cfg0.N) (k : Fin 512) (j : Fin 1024) : iblk m c 5 t (ix2 k j) = PA m c (ix2 k j) := by
  blk_simp [iblk]
  simp only [V, hostOps0, List.flatten_cons, List.flatten_nil, List.append_nil, List.cons_append, List.nil_append]
  entry_read
  blk_point [idx t]

/-- The projection of the gated linear attention's rows. -/
theorem blk6 (c : Dev nD) (t : Fin cfg0.N) (k : Fin 512) (j : Fin 1024) : iblk m c 6 t (ix2 k j) = PB m c (ix2 k j) := by
  blk_simp [iblk]
  simp only [V, hostOps0, List.flatten_cons, List.flatten_nil, List.append_nil, List.cons_append, List.nil_append]
  entry_read
  blk_point [idx t]

/-- The output projection. -/
theorem blk7 (c : Dev nD) (t : Fin cfg0.N) (j d : Fin 1024) : iblk m c 7 t (ix2 j d) = WO m c (ix2 j d) := by
  blk_simp [iblk]
  simp only [V, hostOps0, List.flatten_cons, List.flatten_nil, List.append_nil, List.cons_append, List.nil_append]
  entry_read
  blk_point [idx t]

/-- The gains. -/
theorem blk8 (c : Dev nD) (t : Fin cfg0.N) (k : Fin 1024) : iblk m c 8 t (ix2 0 k) = G m c (ix1 k) := by
  rw [← row_apply (G m c), ← V_gain m c]
  blk_point [iblk, idx t]

/-- The router's weights. -/
theorem blk9 (c : Dev nD) (t : Fin cfg0.N) (k : Fin 1024) (l : Fin 128) : iblk m c 9 t (ix2 k l) = WR m c (ix2 k l) := by
  blk_point [iblk, V, idx t]

/-- The router's bias. -/
theorem blk10 (c : Dev nD) (t : Fin cfg0.N) (l : Fin 128) : iblk m c 10 t (ix2 0 l) = BR m c (ix1 l) := by
  rw [← bias_apply (BR m c), ← V_bias m c]
  blk_point [iblk, idx t]

end Cert.PostIdeal.Merge

end
-- ==== Proof.PostReference.lean ====
/- What the reference's merge computes, entry by entry. -/
module

public import Idealize.ShloMosaic.Lib.Pipeline.ValueKit
public import Idealize.ShloMosaic.Lib.Claim
public import proofs.«01_k».proof.Proof.Gen.PostRefIdeal.Run
public import proofs.«01_k».proof.Proof.PostTerm

@[expose] public section

set_option maxRecDepth 16384

noncomputable section

namespace Cert.PostRefIdeal.Merge

open Cert.PostRefIdeal Cert.PostRefIdeal.Gen Idealize.ShloMosaic Idealize.ShloMosaic.TcCoe Idealize.SL.Sem
open Cert.Inproj (hrow)
open Cert.Merge

/-- The gates of both branches, from the projected columns. -/
def GATES (u : FVec Ideal S32768x5120 .bf16) : FVec Ideal S32768x2048 .f32 :=
  Host.divf (broadcastInDim S32768x2048 ![] bcast_S_S32768x2048 (constant S_ .f32 0x3F800000#32))
    (addf (broadcastInDim S32768x2048 ![] bcast_S_S32768x2048 (constant S_ .f32 0x3F800000#32))
      (Host.exp (Host.negf (extf .f32 (extractStridedSlice S32768x2048 ![0, 3072] u slices_S32768x5120_S32768x2048_0_3072) bitsLt_bf16_f32))))

/-- A branch's projection. -/
def SIDE (y : FVec Ideal S32768x512 .bf16) (p : FVec Ideal S512x1024 .f32) : FVec Ideal S32768x1024 .f32 :=
  Host.dotGeneral dot_S32768x512_S512x1024_S32768x1024_1_0_0_1_n_n none (extf .f32 y bitsLt_bf16_f32) p

/-- The merged branches, from the gates `g` and the projections `a` and `b`. -/
def MERGED (g : FVec Ideal S32768x2048 .f32) (a b : FVec Ideal S32768x1024 .f32) : FVec Ideal S32768x1024 .f32 :=
  addf (mulf (extractStridedSlice S32768x1024 ![0, 0] g slices_S32768x2048_S32768x1024_0_0) a)
    (mulf (extractStridedSlice S32768x1024 ![0, 1024] g slices_S32768x2048_S32768x1024_0_1024) b)

/-- The first result, from the merged branches `v`. -/
def SUM (x v : FVec Ideal S32768x1024 .f32) (o : FVec Ideal S1024x1024 .f32) : FVec Ideal S32768x1024 .f32 :=
  addf x (Host.dotGeneral dot_S32768x1024_S1024x1024_S32768x1024_1_0_0_1_n_n none v o)

/-- The first result, from the arguments. -/
def MID (x : FVec Ideal S32768x1024 .f32) (ya yb : FVec Ideal S32768x512 .bf16) (u : FVec Ideal S32768x5120 .bf16)
    (pa pb : FVec Ideal S512x1024 .f32) (o : FVec Ideal S1024x1024 .f32) : FVec Ideal S32768x1024 .f32 :=
  SUM x (MERGED (GATES u) (SIDE ya pa) (SIDE yb pb)) o

/-- The normed rows. -/
def ROWS (x : FVec Ideal S32768x1024 .f32) (g : FVec Ideal S1024 .f32) : FVec Ideal S32768x1024 .f32 :=
  mulf (mulf x (broadcastInDim S32768x1024 ![0, 1] bcast_S32768x1_S32768x1024_0_1
      (Host.rsqrt (addf
        (Host.divf (broadcastInDim S32768x1 ![0] bcast_S32768_S32768x1_0
            (Host.reduceAdd (mulf x x) (constant S_ .f32 0x00000000#32) reducesTo_S32768x1024_S32768_d1 h_S_))
          (broadcastInDim S32768x1 ![] bcast_S_S32768x1 (constant S_ .f32 0x44800000#32)))
        (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

/-- The second result, from the first. -/
def NORM (x : FVec Ideal S32768x1024 .f32) (g : FVec Ideal S1024 .f32) : FVec Ideal S32768x1024 .bf16 :=
  truncf .bf16 (ROWS x g) bitsLt_bf16_f32

/-- The reference's first result. -/
theorem mid_eq (m : (ℓ : Loc nD τ sig) → Buf (Elt Ideal) ℓ) (c : Dev nD) :
    Value.res_main_v18 (F := Ideal) (StableHlo.launchContents m c)
      = MID (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  unfold Value.res_main_v18; rfl

/-- The reference's second result. -/
theorem res_eq (m : (ℓ : Loc nD τ sig) → Buf (Elt Ideal) ℓ) (c : Dev nD) :
    truncf .bf16 (Value.res_main_v31 (F := Ideal) (StableHlo.launchContents m c)) bitsLt_bf16_f32
      = NORM (MID (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)))
        (m ((c.tc : Thread nD τ).loc main_arg7)) := by
  unfold Value.res_main_v31; rfl

/-- A gate. -/
theorem gates_apply (u : FVec Ideal S32768x5120 .bf16) (r : Fin 32768) (j : Fin 2048) :
    GATES u (ix2 r j) = Ideal.logistic (u (ix2 r ⟨3072 + j.val, by omega⟩)) := by
  pointwise [GATES]
  rfl

/-- An entry of a branch's projection. -/
theorem side_apply (y : FVec Ideal S32768x512 .bf16) (p : FVec Ideal S512x1024 .f32) (r : Fin 32768) (j : Fin 1024) :
    SIDE y p (ix2 r j) = ∑ k : Fin 512, y (ix2 r k) * p (ix2 k j) := by
  pointwise [SIDE]

/-- An entry of the merged branches. -/
theorem merged_apply (g : FVec Ideal S32768x2048 .f32) (a b : FVec Ideal S32768x1024 .f32) (r : Fin 32768) (j : Fin 1024) :
    MERGED g a b (ix2 r j)
      = g (ix2 r ⟨j.val, by omega⟩) * a (ix2 r j) + g (ix2 r ⟨1024 + j.val, by omega⟩) * b (ix2 r j) := by
  pointwise [MERGED]

/-- An entry of the first result, from the merged branches. -/
theorem sum_apply (x v : FVec Ideal S32768x1024 .f32) (o : FVec Ideal S1024x1024 .f32) (r : Fin 32768) (d : Fin 1024) :
    SUM x v o (ix2 r d) = x (ix2 r d) + ∑ j : Fin 1024, v (ix2 r j) * o (ix2 j d) := by
  pointwise [SUM]

/-- An entry of the first result. -/
theorem mid_apply (x : FVec Ideal S32768x1024 .f32) (ya yb : FVec Ideal S32768x512 .bf16) (u : FVec Ideal S32768x5120 .bf16)
    (pa pb : FVec Ideal S512x1024 .f32) (o : FVec Ideal S1024x1024 .f32) (r : Fin 32768) (d : Fin 1024) :
    MID x ya yb u pa pb o (ix2 r d)
      = mid (x (ix2 r d)) (fun j => u (ix2 r ⟨3072 + j.val, by omega⟩)) (fun j => u (ix2 r ⟨4096 + j.val, by omega⟩))
          (fun k => ya (ix2 r k)) (fun k => yb (ix2 r k)) (fun k j => pa (ix2 k j)) (fun k j => pb (ix2 k j))
          (fun j => o (ix2 j d)) := by
  simp only [MID, sum_apply, merged_apply, gates_apply, side_apply, mid, branch, ← Nat.add_assoc]

/-- An entry of the normed rows. -/
theorem rows_apply (x : FVec Ideal S32768x1024 .f32) (g : FVec Ideal S1024 .f32) (r : Fin 32768) (d : Fin 1024) :
    ROWS x g (ix2 r d) = hrow (fun k => x (ix2 r k)) (fun k => g (ix1 k)) d := by
  unfold hrow
  pointwise [ROWS]

/-- An entry of the second result. -/
theorem norm_apply (x : FVec Ideal S32768x1024 .f32) (g : FVec Ideal S1024 .f32) (r : Fin 32768) (d : Fin 1024) :
    NORM x g (ix2 r d) = hrow (fun k => x (ix2 r k)) (fun k => g (ix1 k)) d := rows_apply x g r d

end Cert.PostRefIdeal.Merge

end
-- ==== Proof.PostValue.lean ====
/- The merge's results are the arrays the reference returns. -/
module

public import proofs.«01_k».proof.Proof.PostBlocks
public import proofs.«01_k».proof.Proof.PostReference

@[expose] public section

set_option maxRecDepth 16384

noncomputable section

namespace Cert.PostIdeal.Merge

open Cert.PostIdeal Cert.PostIdeal.Gen Idealize.ShloMosaic Idealize.ShloMosaic.TcCoe Idealize.SL.Sem
open Idealize.ShloMosaic.Pipeline (Dat)
open Cert.Inproj (hrow)
open Cert.Merge
open Cert.PostRefIdeal.Merge (MID NORM mid_apply norm_apply)

variable (m : (ℓ : Loc nD τ sig) → Buf (Elt Ideal) ℓ)

/-- The first result, as the reference computes it. -/
abbrev SUMS (c : Dev nD) : FVec Ideal ⟨2, ![32768, 1024]⟩ .f32 :=
  MID (X m c) (YA m c) (YB m c) (U m c) (PA m c) (PB m c) (WO m c)

/-- A block of the first result. -/
theorem mid_eq (ga gb : FVec Ideal S512x1024 .bf16) (ya yb : FVec Ideal S512x512 .bf16) (pa pb : FVec Ideal S512x1024 .bf16)
    (x : FVec Ideal S512x1024 .f32) (o : FVec Ideal S1024x1024 .bf16) (r : Fin 512) (d : Fin 1024) :
    k0_pay2 (F := Ideal) ga gb ya pa yb pb x o (ix2 r d)
      = mid (x (ix2 r d)) (fun j => ga (ix2 r j)) (fun j => gb (ix2 r j)) (fun k => ya (ix2 r k)) (fun k => yb (ix2 r k))
          (fun k j => pa (ix2 k j)) (fun k j => pb (ix2 k j)) (fun j => o (ix2 j d)) := by
  unfold mid branch
  pointwise [k0_pay2]

/-- A block of the second result, from the first result's block and the gains. -/
theorem norm_eq (ga gb : FVec Ideal S512x1024 .bf16) (ya yb : FVec Ideal S512x512 .bf16) (pa pb : FVec Ideal S512x1024 .bf16)
    (x : FVec Ideal S512x1024 .f32) (o : FVec Ideal S1024x1024 .bf16) (g : FVec Ideal S1x1024 .f32) (r : Fin 512)
    (d : Fin 1024) :
    k0_pay7 (F := Ideal) (k0_pay2 (F := Ideal) ga gb ya pa yb pb x o) (k0_pay3 (F := Ideal) g)
        (k0_pay4 (F := Ideal) ga gb ya pa yb pb x o) (k0_pay5 (F := Ideal)) (ix2 r d)
      = hrow (fun k => k0_pay2 (F := Ideal) ga gb ya pa yb pb x o (ix2 r k)) (fun k => g (ix2 0 k)) d := by
  unfold hrow
  unfold k0_pay4
  generalize k0_pay2 (F := Ideal) ga gb ya pa yb pb x o = n
  pointwise [k0_pay7, k0_pay6, k0_pay5, k0_pay3]

/-- A visit's block of the first result is the reference's. -/
theorem visit_mid (c : Dev nD) (t : Fin cfg0.N) (r : Fin 512) (d : Fin 1024) :
    k0_pay2 (F := Ideal) (View.ld (iblk m c 3 t) r0_0) (View.ld (iblk m c 4 t) r0_0) (View.ld (iblk m c 1 t) r0_1)
        (View.ld (iblk m c 5 t) r0_0) (View.ld (iblk m c 2 t) r0_1) (View.ld (iblk m c 6 t) r0_0)
        (View.ld (iblk m c 0 t) r0_0) (View.ld (iblk m c 7 t) r0_2) (ix2 r d)
      = SUMS m c (ix2 (at' t r) d) := by
  have h0 : ∀ (r : Fin 512) (k : Fin 1024), View.ld (iblk m c 0 t) r0_0 (ix2 r k) = iblk m c 0 t (ix2 r k) := by
    intro r k; pointwise
  have h1 : ∀ r k : Fin 512, View.ld (iblk m c 1 t) r0_1 (ix2 r k) = iblk m c 1 t (ix2 r k) := by intro r k; pointwise
  have h2 : ∀ r k : Fin 512, View.ld (iblk m c 2 t) r0_1 (ix2 r k) = iblk m c 2 t (ix2 r k) := by intro r k; pointwise
  have h3 : ∀ (r : Fin 512) (k : Fin 1024), View.ld (iblk m c 3 t) r0_0 (ix2 r k) = iblk m c 3 t (ix2 r k) := by
    intro r k; pointwise
  have h4 : ∀ (r : Fin 512) (k : Fin 1024), View.ld (iblk m c 4 t) r0_0 (ix2 r k) = iblk m c 4 t (ix2 r k) := by
    intro r k; pointwise
  have h5 : ∀ (r : Fin 512) (k : Fin 1024), View.ld (iblk m c 5 t) r0_0 (ix2 r k) = iblk m c 5 t (ix2 r k) := by
    intro r k; pointwise
  have h6 : ∀ (r : Fin 512) (k : Fin 1024), View.ld (iblk m c 6 t) r0_0 (ix2 r k) = iblk m c 6 t (ix2 r k) := by
    intro r k; pointwise
  have h7 : ∀ r k : Fin 1024, View.ld (iblk m c 7 t) r0_2 (ix2 r k) = iblk m c 7 t (ix2 r k) := by intro r k; pointwise
  rw [mid_eq]
  refine Eq.trans ?_ (mid_apply _ _ _ _ _ _ _ _ _).symm
  simp only [h0, h1, h2, h3, h4, h5, h6, h7, blk0, blk1, blk2, blk3, blk4, blk5, blk6, blk7]

/-- What a visit writes of the first result. -/
theorem point_mid (c : Dev nD) (t : Fin cfg0.N) (y : S512x1024.Idx) :
    out0_11 (iblk m c 0 t) (iblk m c 1 t) (iblk m c 2 t) (iblk m c 3 t) (iblk m c 4 t) (iblk m c 5 t) (iblk m c 6 t)
        (iblk m c 7 t) (iblk m c 8 t) (iblk m c 9 t) (iblk m c 10 t) y
      = SUMS m c (ix2 (at' t (y 0)) (y 1)) := by
  unfold_out out0_11
  have hv := visit_mid m c t
  generalize SUMS m c = R at hv ⊢
  canon_tiles y h
  case piece0 =>
    idx_vars y
    exact (hv _ _).trans (by rw [show (y 0 : Fin 512) = y0 from Fin.ext h0, show (y 1 : Fin 1024) = y1 from Fin.ext h1])

/-- What a visit writes of the second result. -/
theorem point_norm (c : Dev nD) (t : Fin cfg0.N) (y : S512x1024.Idx) :
    out0_12 (iblk m c 0 t) (iblk m c 1 t) (iblk m c 2 t) (iblk m c 3 t) (iblk m c 4 t) (iblk m c 5 t) (iblk m c 6 t)
        (iblk m c 7 t) (iblk m c 8 t) (iblk m c 9 t) (iblk m c 10 t) y
      = NORM (SUMS m c) (G m c) (ix2 (at' t (y 0)) (y 1)) := by
  unfold_out out0_12
  have hv : ∀ (r : Fin 512) (d : Fin 1024), _ = NORM (SUMS m c) (G m c) (ix2 (at' t r) d) := fun r d =>
    (norm_eq (View.ld (iblk m c 3 t) r0_0) (View.ld (iblk m c 4 t) r0_0) (View.ld (iblk m c 1 t) r0_1)
        (View.ld (iblk m c 2 t) r0_1) (View.ld (iblk m c 5 t) r0_0) (View.ld (iblk m c 6 t) r0_0)
        (View.ld (iblk m c 0 t) r0_0) (View.ld (iblk m c 7 t) r0_2) (View.ld (iblk m c 8 t) r0_3) r d).trans (by
      have h8 : ∀ k : Fin 1024, View.ld (iblk m c 8 t) r0_3 (ix2 0 k) = iblk m c 8 t (ix2 0 k) := by intro k; pointwise
      refine Eq.trans ?_ (norm_apply _ _ _ _).symm
      simp only [visit_mid, h8, blk8])
  generalize NORM (SUMS m c) (G m c) = R at hv ⊢
  canon_tiles y h
  case piece0 =>
    idx_vars y
    exact (hv _ _).trans (by rw [show (y 0 : Fin 512) = y0 from Fin.ext h0, show (y 1 : Fin 1024) = y1 from Fin.ext h1])

/-- The first result of the kernel. -/
theorem final11 (c : Dev nD) : (dats m 0 c).arrAt 11 cfg0.N = SUMS m c := by
  refine (dats m 0 c).arrAt_eq_of_covers 11 _ (by decide +kernel) fun t hf y => ?_
  blk_simp
  rw [after0_11]
  refine (point_mid m c t y).trans ?_
  generalize SUMS m c = R
  blk_ext [idx t, at']

/-- The second result of the kernel. -/
theorem final12 (c : Dev nD) : (dats m 0 c).arrAt 12 cfg0.N = NORM (SUMS m c) (G m c) := by
  refine (dats m 0 c).arrAt_eq_of_covers 12 _ (by decide +kernel) fun t hf y => ?_
  blk_simp
  rw [after0_12]
  refine (point_norm m c t y).trans ?_
  generalize NORM (SUMS m c) (G m c) = R
  blk_ext [idx t, at']

end Cert.PostIdeal.Merge

end
-- ==== Proof.RouteTerm.lean ====
/- The routing of one row: the group of the largest logit, that group's two largest logits, and their weights. -/
module

public import proofs.«01_k».proof.Proof.AttnSum
public import Idealize.ShloMosaic.Lib.SortFacts

@[expose] public section

set_option maxRecDepth 16384

noncomputable section

namespace Cert.Route

open Idealize.ShloMosaic

/-- Position `i` comes before position `j` in decreasing order, the earlier position first among equals. -/
def Ahead {α : Type} [LinearOrder α] {n : ℕ} (f : Fin n → α) (i j : Fin n) : Prop := f j < f i ∨ (f j = f i ∧ i < j)

/-- Position `i` comes first. -/
def First {α : Type} [LinearOrder α] {n : ℕ} (f : Fin n → α) (i : Fin n) : Prop := ∀ j, j ≠ i → Ahead f i j

/-- Position `j` comes first among the positions other than `i`. -/
def Next {α : Type} [LinearOrder α] {n : ℕ} (f : Fin n → α) (i j : Fin n) : Prop :=
  j ≠ i ∧ ∀ k, k ≠ i → k ≠ j → Ahead f j k

/-- Putting the earliest position in its place keeps the order. -/
theorem ahead_insert {α : Type} [LinearOrder α] {n : ℕ} (f : Fin n → α) (a : Fin n) (l : List (Fin n))
    (hl : l.Pairwise (Ahead f)) (ha : ∀ b ∈ l, a < b) :
    (insertBefore (fun k k' => decide (f k' < f k)) a l).Pairwise (Ahead f) := by
  induction l with
  | nil => simp [insertBefore]
  | cons b l ih =>
    obtain ⟨hb, hl'⟩ := List.pairwise_cons.mp hl
    rw [insertBefore]
    split_ifs with h
    · have h := of_decide_eq_true h
      refine List.pairwise_cons.mpr ⟨fun c hc => ?_, ih hl' fun c hc => ha c (List.mem_cons_of_mem _ hc)⟩
      rcases List.mem_cons.mp ((perm_insertBefore _ a l).mem_iff.mp hc) with rfl | hc
      · exact Or.inl h
      · exact hb c hc
    · have h : ¬ f a < f b := fun h' => h (decide_eq_true h')
      have hab : Ahead f a b := by
        rcases lt_or_eq_of_le (not_lt.mp h) with h | h
        · exact Or.inl h
        · exact Or.inr ⟨h, ha b (by simp)⟩
      refine List.pairwise_cons.mpr ⟨fun c hc => ?_, hl⟩
      rcases List.mem_cons.mp hc with rfl | hc
      · exact hab
      · have hbc := hb c hc
        have hac := ha c (List.mem_cons_of_mem _ hc)
        rcases hbc with h2 | ⟨h2, _⟩
        · exact Or.inl (lt_of_lt_of_le h2 (not_lt.mp h))
        · rcases hab with h1 | ⟨h1, _⟩
          · exact Or.inl (by rw [h2]; exact h1)
          · exact Or.inr ⟨h2.trans h1, hac⟩

/-- Sorting increasing positions by their values puts them in decreasing order. -/
theorem ahead_sort {α : Type} [LinearOrder α] {n : ℕ} (f : Fin n → α) (l : List (Fin n)) (hl : l.Pairwise (· < ·)) :
    (stableSort (fun k k' => decide (f k' < f k)) l).Pairwise (Ahead f) := by
  induction l with
  | nil => simp [stableSort]
  | cons a l ih =>
    obtain ⟨ha, hl'⟩ := List.pairwise_cons.mp hl
    rw [stableSort]
    exact ahead_insert f a _ (ih hl') fun b hb => ha b ((perm_stableSort _ l).mem_iff.mp hb)

/-- The sorted positions are in decreasing order. -/
theorem ahead_sorted {α : Type} [LinearOrder α] {n : ℕ} (f : Fin n → α) (i j : Fin n) (h : i < j) :
    Ahead f (sortedFrom (fun k k' => decide (f k' < f k)) i) (sortedFrom (fun k k' => decide (f k' < f k)) j) := by
  have hp := ahead_sort f (List.finRange n) (List.pairwise_lt_finRange n)
  rw [List.pairwise_iff_getElem] at hp
  exact hp _ _ _ _ h

/-- The first sorted position comes first. -/
theorem first_sorted {α : Type} [LinearOrder α] {n : ℕ} (f : Fin n → α) (i : Fin n) (hi : i.val = 0) :
    First f (sortedFrom (fun k k' => decide (f k' < f k)) i) := by
  intro j hj
  obtain ⟨k, rfl⟩ := sortedFrom_surjective (fun k k' => decide (f k' < f k)) j
  refine ahead_sorted f i k (Fin.lt_def.mpr ?_)
  have : k ≠ i := fun h => hj (by rw [h])
  have : k.val ≠ i.val := fun h => this (Fin.ext h)
  omega

/-- The second sorted position comes first among the others. -/
theorem next_sorted {α : Type} [LinearOrder α] {n : ℕ} (f : Fin n → α) (i j : Fin n) (hi : i.val = 0) (hj : j.val = 1) :
    Next f (sortedFrom (fun k k' => decide (f k' < f k)) i) (sortedFrom (fun k k' => decide (f k' < f k)) j) := by
  refine ⟨fun h => ?_, fun k hk hk' => ?_⟩
  · have := sortedFrom_injective _ h
    rw [this] at hj; omega
  · obtain ⟨k, rfl⟩ := sortedFrom_surjective (fun k k' => decide (f k' < f k)) k
    refine ahead_sorted f j k (Fin.lt_def.mpr ?_)
    have h1 : k.val ≠ i.val := fun h => hk (by rw [Fin.ext h])
    have h2 : k.val ≠ j.val := fun h => hk' (by rw [Fin.ext h])
    omega

/-- The first position's value is the largest. -/
theorem First.le {α : Type} [LinearOrder α] {n : ℕ} {f : Fin n → α} {i : Fin n} (h : First f i) (j : Fin n) : f j ≤ f i := by
  by_cases hj : j = i
  · rw [hj]
  · rcases h j hj with h | ⟨h, _⟩
    · exact le_of_lt h
    · exact le_of_eq h

/-- The first position is the earliest with its value. -/
theorem First.pos_le {α : Type} [LinearOrder α] {n : ℕ} {f : Fin n → α} {i : Fin n} (h : First f i) (j : Fin n) (e : f j = f i) :
    i ≤ j := by
  by_cases hj : j = i
  · rw [hj]
  · rcases h j hj with h | ⟨_, h⟩
    · exact absurd e (ne_of_lt h)
    · exact le_of_lt h

/-- Only one position comes first. -/
theorem First.unique {α : Type} [LinearOrder α] {n : ℕ} {f : Fin n → α} {i j : Fin n} (hi : First f i) (hj : First f j) :
    i = j :=
  le_antisymm (hi.pos_le j (le_antisymm (hi.le j) (hj.le i))) (hj.pos_le i (le_antisymm (hj.le i) (hi.le j)))

/-- The order of reals, read as extended reals. -/
theorem Ahead.coe {n : ℕ} {f : Fin n → ℝ} {i j : Fin n} (h : Ahead (fun k => ((f k : ℝ) : EReal)) i j) : Ahead f i j :=
  h.imp (fun h => EReal.coe_lt_coe_iff.mp h) fun h => ⟨EReal.coe_eq_coe_iff.mp h.1, h.2⟩

/-- The first of reals, read as extended reals. -/
theorem First.coe {n : ℕ} {f : Fin n → ℝ} {i : Fin n} (h : First (fun k => ((f k : ℝ) : EReal)) i) : First f i :=
  fun j hj => (h j hj).coe

/-- The next of reals, read as extended reals. -/
theorem Next.coe {n : ℕ} {f : Fin n → ℝ} {i j : Fin n} (h : Next (fun k => ((f k : ℝ) : EReal)) i j) : Next f i j :=
  ⟨h.1, fun k hk hk' => (h.2 k hk hk').coe⟩

/-- The maximum is the first position's value. -/
theorem First.fold {n : ℕ} {f : Fin n → EReal} {i : Fin n} (h : First f i) : Finset.univ.fold max ⊥ f = f i :=
  le_antisymm ((Finset.fold_max_le _).mpr ⟨bot_le, fun j _ => h.le j⟩)
    ((Finset.le_fold_max _).mpr (Or.inr ⟨i, Finset.mem_univ _, le_refl _⟩))

/-- The minimum of words is the one word not above the others. -/
theorem fold_min {n : ℕ} (h : Fin n → BitVec 32) (b : BitVec 32) (i : Fin n) (hb : (h i).toInt ≤ b.toInt)
    (hle : ∀ j, (h i).toInt ≤ (h j).toInt) : Finset.univ.fold IntOp.minsi b h = h i := by
  have hm : ∀ x y : BitVec 32, x.toInt ≤ y.toInt → IntOp.minsi x y = x := by
    intro x y hxy
    unfold IntOp.minsi
    split_ifs with hs
    · rfl
    · have : ¬ x.toInt < y.toInt := fun h' => hs (by simpa [BitVec.slt] using h')
      exact BitVec.eq_of_toInt_eq (by omega)
  have hr : ∀ s : Finset (Fin n), (h i).toInt ≤ (s.fold IntOp.minsi b h).toInt := by
    intro s
    induction s using Finset.induction_on with
    | empty => simpa using hb
    | insert k s hk ih =>
      rw [Finset.fold_insert hk]
      unfold IntOp.minsi
      split_ifs
      · exact hle k
      · exact ih
  rw [← Finset.insert_erase (Finset.mem_univ i), Finset.fold_insert (Finset.notMem_erase _ _)]
  exact hm _ _ (hr _)

/-- The word of a lane, read as an integer. -/
theorem lane_toInt (l : Fin 128) : (BitVec.ofNat 32 l.val).toInt = l.val := by
  have h : (BitVec.ofNat 32 l.val).toNat = l.val := by rw [BitVec.toNat_ofNat]; omega
  rw [BitVec.toInt_eq_toNat_of_lt (by omega), h]

/-- The earliest lane with the largest value, as the minimum of the lanes that have it. -/
theorem First.lane {f : Fin 128 → EReal} {i : Fin 128} (h : First f i) :
    Finset.univ.fold IntOp.minsi 2147483647#32
        (fun x => if f x = Finset.univ.fold max ⊥ f then BitVec.ofNat 32 x.val else 128#32)
      = BitVec.ofNat 32 i.val := by
  rw [h.fold]
  refine (fold_min _ _ i ?_ fun j => ?_).trans (if_pos rfl)
  · beta_reduce
    have : (2147483647#32 : BitVec 32).toInt = 2147483647 := by decide
    rw [if_pos rfl, lane_toInt]
    omega
  · beta_reduce
    rw [if_pos rfl, lane_toInt]
    split_ifs with e
    · have := Fin.le_def.mp (h.pos_le j e)
      rw [lane_toInt]
      omega
    · have : (128#32 : BitVec 32).toInt = 128 := by decide
      omega

/-- The sum of the group logits' exponentials, the largest logit `ℓ g` taken off. -/
def mass (ℓ : ℕ → ℝ) (g : ℕ) : ℝ := ∑ j : Fin 4, Real.exp (ℓ j.val - ℓ g)

/-- The second expert's exponential, the first expert's logit taken off. -/
def ratio (ℓ : ℕ → ℝ) (g a b : ℕ) : ℝ := Real.exp (ℓ (4 + 8 * g + b) - ℓ (4 + 8 * g + a))

/-- The routing of one row with logits `ℓ` (4 groups', then 32 experts'), at one column: the weights of the experts
    `a` and `b` of group `g`. -/
def gate (ℓ : ℕ → ℝ) (g a b l : ℕ) : EReal :=
  (if l = 8 * g + a then ((1 / mass ℓ g / (1 + ratio ℓ g a b) : ℝ) : EReal) else 0)
    + (if l = 8 * g + b then ((1 / mass ℓ g * ratio ℓ g a b / (1 + ratio ℓ g a b) : ℝ) : EReal) else 0)

theorem mass_pos (ℓ : ℕ → ℝ) (g : ℕ) : 0 < mass ℓ g :=
  Finset.sum_pos (fun _ _ => Real.exp_pos _) ⟨0, Finset.mem_univ _⟩

theorem ratio_pos (ℓ : ℕ → ℝ) (g a b : ℕ) : 0 < ratio ℓ g a b := Real.exp_pos _

/-- A quotient of reals with a positive divisor. -/
theorem div_real (x y : ℝ) (hy : 0 < y) : Ideal.div (x : EReal) (y : EReal) = ((x / y : ℝ) : EReal) := by
  unfold Ideal.div
  rw [if_neg (by exact_mod_cast hy.ne'), ← EReal.coe_inv, ← EReal.coe_mul, div_eq_mul_inv]

end Cert.Route

end
-- ==== Proof.RouteKernel.lean ====
/- The routing of one row over the kernel's 128 lanes. -/
module

public import proofs.«01_k».proof.Proof.RouteTerm

@[expose] public section

set_option maxRecDepth 16384

noncomputable section

namespace Cert.Route

open Idealize.ShloMosaic
open Cert.Attn (sum_real)

/-- The groups' logits, minus infinity in the other lanes. -/
def groups (L : Fin 128 → EReal) (l : Fin 128) : EReal := if l.val < 4 then L l else ⊥

/-- The logits of the experts of group `g`, minus infinity in the other lanes. -/
def experts (L : Fin 128 → EReal) (g : ℕ) (l : Fin 128) : EReal :=
  if 4 + 8 * g ≤ l.val ∧ l.val < 12 + 8 * g then L l else ⊥

/-- The same with minus infinity in lane `i` too. -/
def others (f : Fin 128 → EReal) (i l : Fin 128) : EReal := if l = i then ⊥ else f l

/-- A real lies before minus infinity. -/
theorem ahead_bot {n : ℕ} {f : Fin n → EReal} {i j : Fin n} (r : ℝ) (hi : f i = r) (hj : f j = ⊥) : Ahead f i j :=
  Or.inl (by rw [hi, hj]; exact EReal.bot_lt_coe r)

/-- The order of two reals, whatever their positions are called. -/
theorem ahead_coe {n k : ℕ} {f : Fin n → EReal} {p : Fin k → ℝ} {i j : Fin n} {a b : Fin k} (h : Ahead p a b)
    (hi : f i = p a) (hj : f j = p b) (hlt : a < b → i < j) : Ahead f i j := by
  unfold Ahead
  rw [hi, hj]
  exact h.imp (fun h => EReal.coe_lt_coe_iff.mpr h) fun h => ⟨by rw [h.1], hlt h.2⟩

variable (L : Fin 128 → EReal) (ℓ : ℕ → ℝ) (hL : ∀ l : Fin 128, l.val < 36 → L l = ℓ l.val)
include hL

/-- The first group's lane comes first. -/
theorem first_groups (g : Fin 4) (hg : First (fun j : Fin 4 => ℓ j.val) g) : First (groups L) ⟨g.val, by omega⟩ := by
  have h0 : groups L ⟨g.val, by omega⟩ = ((ℓ g.val : ℝ) : EReal) := by
    rw [groups, if_pos g.isLt, hL _ (by show g.val < 36; omega)]
  intro l hl
  by_cases h : l.val < 4
  · have hne : (⟨l.val, h⟩ : Fin 4) ≠ g := fun e => hl (Fin.ext (show l.val = g.val by rw [← e]))
    exact ahead_coe (hg _ hne) h0 (by rw [groups, if_pos h, hL _ (by omega)]) fun h => h
  · exact ahead_bot _ h0 (if_neg h)

/-- The sum of the groups' exponentials. -/
theorem total_groups (g : Fin 4) : ∑ l, Ideal.exp (groups L l - ((ℓ g.val : ℝ) : EReal)) = ((mass ℓ g.val : ℝ) : EReal) := by
  refine (Fin.sum_univ_add (a := 4) (b := 124) fun l : Fin (4 + 124) =>
    Ideal.exp (groups L l - ((ℓ g.val : ℝ) : EReal))).trans ?_
  have h1 : ∀ j : Fin 4, Ideal.exp (groups L (Fin.castAdd 124 j) - ((ℓ g.val : ℝ) : EReal))
      = ((Real.exp (ℓ j.val - ℓ g.val) : ℝ) : EReal) := by
    intro j
    have : groups L (Fin.castAdd 124 j) = ((ℓ j.val : ℝ) : EReal) := by
      rw [groups, if_pos (by show j.val < 4; omega), hL _ (by show j.val < 36; omega)]
      rfl
    rw [this, ← EReal.coe_sub]
    rfl
  have h2 : ∀ j : Fin 124, Ideal.exp (groups L (Fin.natAdd 4 j) - ((ℓ g.val : ℝ) : EReal)) = 0 := by
    intro j
    have : groups L (Fin.natAdd 4 j) = ⊥ := if_neg (by show ¬ 4 + j.val < 4; omega)
    rw [this, EReal.bot_sub]
    rfl
  rw [Finset.sum_congr rfl fun j _ => h1 j, Finset.sum_congr rfl fun j _ => h2 j, Finset.sum_const_zero, add_zero, sum_real]
  rfl

variable (g : Fin 4) (a b : Fin 8)

/-- The logit of an expert of the group. -/
theorem experts_coe (e : Fin 8) :
    experts L g.val ⟨4 + 8 * g.val + e.val, by omega⟩ = ((ℓ (4 + 8 * g.val + e.val) : ℝ) : EReal) := by
  rw [experts, if_pos (by show _ ≤ 4 + 8 * g.val + e.val ∧ 4 + 8 * g.val + e.val < _; omega),
    hL _ (by show 4 + 8 * g.val + e.val < 36; omega)]

/-- The first expert's lane comes first. -/
theorem first_experts (ha : First (fun e : Fin 8 => ℓ (4 + 8 * g.val + e.val)) a) :
    First (experts L g.val) ⟨4 + 8 * g.val + a.val, by omega⟩ := by
  intro l hl
  by_cases h : 4 + 8 * g.val ≤ l.val ∧ l.val < 12 + 8 * g.val
  · have hl' : l.val ≠ 4 + 8 * g.val + a.val := fun e => hl (Fin.ext e)
    obtain ⟨e, he⟩ : ∃ e : Fin 8, l.val = 4 + 8 * g.val + e.val :=
      ⟨⟨l.val - (4 + 8 * g.val), by omega⟩, by show l.val = 4 + 8 * g.val + (l.val - (4 + 8 * g.val)); omega⟩
    have hx : experts L g.val l = ((ℓ (4 + 8 * g.val + e.val) : ℝ) : EReal) := by
      rw [show l = ⟨4 + 8 * g.val + e.val, by omega⟩ from Fin.ext he, experts_coe L ℓ hL]
    have hne : e ≠ a := fun h => hl' (by rw [he, h])
    exact ahead_coe (ha e hne) (experts_coe L ℓ hL g a) hx fun h =>
      Fin.lt_def.mpr (by have := Fin.lt_def.mp h; show 4 + 8 * g.val + a.val < l.val; omega)
  · exact ahead_bot _ (experts_coe L ℓ hL g a) (if_neg h)

/-- The second expert's lane comes first among the others. -/
theorem first_others (hb : Next (fun e : Fin 8 => ℓ (4 + 8 * g.val + e.val)) a b) :
    First (others (experts L g.val) ⟨4 + 8 * g.val + a.val, by omega⟩) ⟨4 + 8 * g.val + b.val, by omega⟩ := by
  have hba : b.val ≠ a.val := fun e => hb.1 (Fin.ext e)
  have h0 : others (experts L g.val) ⟨4 + 8 * g.val + a.val, by omega⟩ ⟨4 + 8 * g.val + b.val, by omega⟩
      = ((ℓ (4 + 8 * g.val + b.val) : ℝ) : EReal) := by
    rw [others, if_neg (fun e => hba (by have := congrArg Fin.val e; simp only at this; omega)), experts_coe L ℓ hL]
  intro l hl
  by_cases hla : l = ⟨4 + 8 * g.val + a.val, by omega⟩
  · exact ahead_bot _ h0 (if_pos hla)
  by_cases h : 4 + 8 * g.val ≤ l.val ∧ l.val < 12 + 8 * g.val
  · have hl' : l.val ≠ 4 + 8 * g.val + b.val := fun e => hl (Fin.ext e)
    have hla' : l.val ≠ 4 + 8 * g.val + a.val := fun e => hla (Fin.ext e)
    obtain ⟨e, he⟩ : ∃ e : Fin 8, l.val = 4 + 8 * g.val + e.val :=
      ⟨⟨l.val - (4 + 8 * g.val), by omega⟩, by show l.val = 4 + 8 * g.val + (l.val - (4 + 8 * g.val)); omega⟩
    have hx : experts L g.val l = ((ℓ (4 + 8 * g.val + e.val) : ℝ) : EReal) := by
      rw [show l = ⟨4 + 8 * g.val + e.val, by omega⟩ from Fin.ext he, experts_coe L ℓ hL]
    have hne : e ≠ b := fun h => hl' (by rw [he, h])
    have hne' : e ≠ a := fun h => hla' (by rw [he, h])
    refine ahead_coe (hb.2 e hne' hne) h0 ?_ fun h =>
      Fin.lt_def.mpr (by have := Fin.lt_def.mp h; show 4 + 8 * g.val + b.val < l.val; omega)
    rw [others, if_neg hla, hx]
  · exact ahead_bot _ h0 (by rw [others, if_neg hla, experts, if_neg h])

end Cert.Route

end
-- ==== Proof.PostRoute.lean ====
/- The routing that a visit of the merge computes from its rows' logits. -/
module

public import proofs.«01_k».proof.Proof.Gen.PostIdeal
public import proofs.«01_k».proof.Proof.Gen.PostIdeal.Skeleton
public import proofs.«01_k».proof.Proof.RouteKernel

@[expose] public section

set_option maxRecDepth 16384

noncomputable section

namespace Cert.PostIdeal.Merge

open Cert.PostIdeal Cert.PostIdeal.Gen Idealize.ShloMosaic Idealize.ShloMosaic.TcCoe Idealize.SL.Sem
open Cert.Route

theorem neg_inf : Ideal.ofBits .f32 0xFF800000#32 = ⊥ := by simp [Ideal.ofBits, Ideal.ieee]

/-- A choice by a decided word. -/
theorem select_word {α : Type} (w : BitVec 1) (p : Prop) [Decidable p] (h : w = if p then 1#1 else 0#1) (x y : α) :
    Scalar.select w x y = if p then x else y := by
  rw [h]
  split_ifs <;> rfl

/-- Two lanes' words are equal when the lanes are. -/
theorem lane_eq (l i : Fin 128) :
    IntOp.cmpi .eq (BitVec.ofNat 32 l.val) (BitVec.ofNat 32 i.val) = if l = i then 1#1 else 0#1 := by
  revert l i
  decide +kernel

/-- A lane's test for the groups. -/
theorem lane_group (l : Fin 128) : IntOp.cmpi .slt (BitVec.ofNat 32 l.val) 4#32 = if l.val < 4 then 1#1 else 0#1 := by
  revert l
  decide +kernel

/-- A lane's test for the experts of a group. -/
theorem lane_expert (g : Fin 4) (l : Fin 128) :
    IntOp.andi (IntOp.cmpi .sge (IntOp.subi (BitVec.ofNat 32 l.val) 4#32) (IntOp.muli (BitVec.ofNat 32 g.val) 8#32))
        (IntOp.cmpi .slt (IntOp.subi (BitVec.ofNat 32 l.val) 4#32)
          (IntOp.muli (IntOp.addi (BitVec.ofNat 32 g.val) 1#32) 8#32))
      = if 4 + 8 * g.val ≤ l.val ∧ l.val < 12 + 8 * g.val then 1#1 else 0#1 := by
  revert g l
  decide +kernel

section Groups

variable (v22 : FVec Ideal S512x1024 .f32) (v25 : FVec Ideal S1x1024 .f32) (v30 v31 : FVec Ideal S512x1 .f32)
  (v40 : Vec Ideal S1024x128 .f32) (v42 : Vec Ideal S1x128 .f32) (r : Fin 512)

/-- The logits of a row. -/
abbrev LOGIT : Fin 128 → EReal := fun l => k0_pay8 (F := Ideal) v22 v25 v30 v31 v40 v42 (ix2 r l)

/-- The groups' logits of a row. -/
theorem groups_apply (l : Fin 128) :
    k0_pay9 (F := Ideal) v22 v25 v30 v31 v40 v42 (ix2 r l) = groups (LOGIT v22 v25 v30 v31 v40 v42 r) l := by
  unfold k0_pay9 LOGIT
  generalize k0_pay8 (F := Ideal) v22 v25 v30 v31 v40 v42 = L
  pointwise
  rw [select_word _ _ (lane_group l), neg_inf]
  rfl

variable (ℓ : ℕ → ℝ) (hL : ∀ l : Fin 128, l.val < 36 → LOGIT v22 v25 v30 v31 v40 v42 r l = ℓ l.val) (g : Fin 4)
  (hg : First (fun j : Fin 4 => ℓ j.val) g)
include hL hg

/-- The largest of the groups' logits. -/
theorem group_top : k0_pay10 (F := Ideal) v22 v25 v30 v31 v40 v42 (ix2 r 0) = ((ℓ g.val : ℝ) : EReal) := by
  have hf := (first_groups _ ℓ hL g hg).fold
  have h := groups_apply v22 v25 v30 v31 v40 v42 r
  unfold k0_pay10
  generalize k0_pay9 (F := Ideal) v22 v25 v30 v31 v40 v42 = G at h
  pointwise
  simp only [h, neg_inf]
  rw [hf, groups, if_pos g.isLt, hL _ (by show g.val < 36; omega)]

/-- The group of a row. -/
theorem group_word : k0_pay11 (F := Ideal) v22 v25 v30 v31 v40 v42 (ix2 r 0) = BitVec.ofNat 32 g.val := by
  have hf := (first_groups _ ℓ hL g hg).lane
  have h := groups_apply v22 v25 v30 v31 v40 v42 r
  unfold k0_pay11 k0_pay10
  generalize k0_pay9 (F := Ideal) v22 v25 v30 v31 v40 v42 = G at h
  pointwise
  simp only [h, neg_inf]
  exact hf

/-- The group's probability. -/
theorem group_prob : k0_pay12 (F := Ideal) v22 v25 v30 v31 v40 v42 (ix2 r 0) = ((1 / mass ℓ g.val : ℝ) : EReal) := by
  have ht := group_top v22 v25 v30 v31 v40 v42 r ℓ hL g hg
  have hs := total_groups _ ℓ hL g
  have h := groups_apply v22 v25 v30 v31 v40 v42 r
  unfold k0_pay12
  generalize k0_pay10 (F := Ideal) v22 v25 v30 v31 v40 v42 = T at ht
  generalize k0_pay9 (F := Ideal) v22 v25 v30 v31 v40 v42 = G at h
  pointwise
  simp only [h, ht]
  rw [hs, ← EReal.coe_one, div_real _ _ (mass_pos ℓ g.val)]

/-- The logits of the group's experts. -/
theorem experts_apply (l : Fin 128) :
    k0_pay16 (F := Ideal) (k0_pay8 (F := Ideal) v22 v25 v30 v31 v40 v42) k0_pay13
        (k0_pay14 (F := Ideal) v22 v25 v30 v31 v40 v42) (k0_pay15 (F := Ideal) v22 v25 v30 v31 v40 v42) (ix2 r l)
      = experts (LOGIT v22 v25 v30 v31 v40 v42 r) g.val l := by
  have hw := group_word v22 v25 v30 v31 v40 v42 r ℓ hL g hg
  unfold LOGIT
  unfold k0_pay14 k0_pay15
  generalize k0_pay11 (F := Ideal) v22 v25 v30 v31 v40 v42 = W at hw
  generalize k0_pay8 (F := Ideal) v22 v25 v30 v31 v40 v42 = L
  pointwise [k0_pay16, k0_pay13]
  rw [hw, select_word _ _ (lane_expert g l), neg_inf]
  rfl

end Groups

section Experts

variable (v45 : FVec Ideal S512x128 .f32) (v46 v67 : IVec S512x128 32) (v71 : IVec S512x128 1) (v73 : IVec S512x1 32)
  (v65 : FVec Ideal S512x1 .f32) (r : Fin 512) (h46 : ∀ l : Fin 128, v46 (ix2 r l) = BitVec.ofNat 32 l.val)
  (L : Fin 128 → EReal) (ℓ : ℕ → ℝ) (hL : ∀ l : Fin 128, l.val < 36 → L l = ℓ l.val) (g : Fin 4) (a b : Fin 8)
  (hE : ∀ l : Fin 128, k0_pay16 (F := Ideal) v45 v67 v71 v73 (ix2 r l) = experts L g.val l)
  (ha : First (fun e : Fin 8 => ℓ (4 + 8 * g.val + e.val)) a)
  (hb : Next (fun e : Fin 8 => ℓ (4 + 8 * g.val + e.val)) a b)
  (h65 : v65 (ix2 r 0) = ((1 / mass ℓ g.val : ℝ) : EReal))

include hL hE ha in
/-- The largest of the experts' logits. -/
theorem expert_top :
    k0_pay17 (F := Ideal) v45 v67 v71 v73 (ix2 r 0) = ((ℓ (4 + 8 * g.val + a.val) : ℝ) : EReal) := by
  have hf := (first_experts L ℓ hL g a ha).fold
  unfold k0_pay17
  generalize k0_pay16 (F := Ideal) v45 v67 v71 v73 = E at hE
  pointwise
  simp only [hE, neg_inf]
  rw [hf, experts_coe L ℓ hL]

include hL hE ha h46 in
/-- The first expert. -/
theorem expert_word :
    k0_pay18 (F := Ideal) v45 v46 v67 v71 v73 (ix2 r 0) = BitVec.ofNat 32 (4 + 8 * g.val + a.val) := by
  have hf := (first_experts L ℓ hL g a ha).lane
  unfold k0_pay18 k0_pay17
  generalize k0_pay16 (F := Ideal) v45 v67 v71 v73 = E at hE
  pointwise
  simp only [hE, neg_inf, h46]
  exact hf

include hL hE ha h46 in
/-- The logits of the other experts. -/
theorem others_apply (l : Fin 128) :
    k0_pay19 (F := Ideal) v45 v46 v67 v71 v73 (ix2 r l) = others (experts L g.val) ⟨4 + 8 * g.val + a.val, by omega⟩ l := by
  have hw := expert_word v45 v46 v67 v71 v73 r h46 L ℓ hL g a hE ha
  unfold k0_pay19
  generalize k0_pay18 (F := Ideal) v45 v46 v67 v71 v73 = W at hw
  generalize k0_pay16 (F := Ideal) v45 v67 v71 v73 = E at hE
  pointwise
  rw [hw, hE, h46, select_word _ _ (lane_eq l ⟨4 + 8 * g.val + a.val, by omega⟩), neg_inf]
  rfl

include hL hE ha h46 hb in
/-- The largest of the others' logits. -/
theorem other_top :
    k0_pay20 (F := Ideal) v45 v46 v67 v71 v73 (ix2 r 0) = ((ℓ (4 + 8 * g.val + b.val) : ℝ) : EReal) := by
  have hf := (first_others L ℓ hL g a b hb).fold
  have ho := others_apply v45 v46 v67 v71 v73 r h46 L ℓ hL g a hE ha
  have hba : b.val ≠ a.val := fun e => hb.1 (Fin.ext e)
  unfold k0_pay20
  generalize k0_pay19 (F := Ideal) v45 v46 v67 v71 v73 = E at ho
  pointwise
  simp only [ho, neg_inf]
  rw [hf, others, if_neg (fun e => hba (by have := congrArg Fin.val e; simp only at this; omega)), experts_coe L ℓ hL]

include hL hE ha h46 hb in
/-- The second expert's lane. -/
theorem other_word (l : Fin 128) :
    k0_pay23 (F := Ideal) v45 v46 v67 v71 v73 (ix2 r l) = if l.val = 4 + 8 * g.val + b.val then 1#1 else 0#1 := by
  have hf := (first_others L ℓ hL g a b hb).lane
  have ho := others_apply v45 v46 v67 v71 v73 r h46 L ℓ hL g a hE ha
  unfold k0_pay23 k0_pay20
  generalize k0_pay19 (F := Ideal) v45 v46 v67 v71 v73 = E at ho
  pointwise
  simp only [ho, neg_inf, h46]
  rw [hf, lane_eq l ⟨4 + 8 * g.val + b.val, by omega⟩]
  exact if_congr Fin.ext_iff rfl rfl

include hL hE ha h46 hb in
/-- The second expert's exponential. -/
theorem ratio_apply :
    k0_pay21 (F := Ideal) v45 v46 v67 v71 v73 (ix2 r 0) = ((ratio ℓ g.val a.val b.val : ℝ) : EReal) := by
  have h1 := expert_top v45 v67 v71 v73 r L ℓ hL g a hE ha
  have h2 := other_top v45 v46 v67 v71 v73 r h46 L ℓ hL g a b hE ha hb
  unfold k0_pay21
  generalize k0_pay20 (F := Ideal) v45 v46 v67 v71 v73 = T2 at h2
  generalize k0_pay17 (F := Ideal) v45 v67 v71 v73 = T1 at h1
  pointwise
  rw [h1, h2, ← EReal.coe_sub]
  rfl

include hL hE ha h46 hb h65 in
/-- The routing of a row. -/
theorem gate_apply (l : Fin 128) :
    k0_pay1 (F := Ideal) (k0_pay22 (F := Ideal) v45 v46 v65 v67 v71 v73) (k0_pay23 (F := Ideal) v45 v46 v67 v71 v73)
        (k0_pay24 (F := Ideal) v45 v46 v65 v67 v71 v73) (k0_pay25 (F := Ideal)) (ix2 r l)
      = gate ℓ g.val a.val b.val l.val := by
  have hw := expert_word v45 v46 v67 v71 v73 r h46 L ℓ hL g a hE ha
  have hr := ratio_apply v45 v46 v67 v71 v73 r h46 L ℓ hL g a b hE ha hb
  have ho := other_word v45 v46 v67 v71 v73 r h46 L ℓ hL g a b hE ha hb
  unfold k0_pay22 k0_pay24
  generalize k0_pay23 (F := Ideal) v45 v46 v67 v71 v73 = O at ho
  generalize k0_pay21 (F := Ideal) v45 v46 v67 v71 v73 = T at hr
  generalize k0_pay18 (F := Ideal) v45 v46 v67 v71 v73 = W at hw
  pointwise [k0_pay1, k0_pay25]
  have hp := ratio_pos ℓ g.val a.val b.val
  rw [h46, hw, hr, h65, select_word _ _ (lane_eq _ ⟨4 + 8 * g.val + a.val, by omega⟩), select_word _ _ (ho _),
    ← EReal.coe_one, ← EReal.coe_mul, ← EReal.coe_add, div_real _ _ (by linarith), div_real _ _ (by linarith)]
  unfold gate
  congr 1
  · refine if_congr ?_ rfl rfl
    rw [Fin.ext_iff]
    show (l.val + 128 - 124) % 128 = 4 + 8 * g.val + a.val ↔ _
    omega
  · refine if_congr ?_ rfl rfl
    show (l.val + 128 - 124) % 128 = 4 + 8 * g.val + b.val ↔ _
    omega

end Experts

end Cert.PostIdeal.Merge

end
-- ==== Proof.RouteReference.lean ====
/- What the reference's routing computes, entry by entry. -/
module

public import proofs.«01_k».proof.Proof.PostReference
public import proofs.«01_k».proof.Proof.RouteTerm

@[expose] public section

set_option maxRecDepth 16384

noncomputable section

namespace Cert.PostRefIdeal.Merge

open Cert.PostRefIdeal Cert.PostRefIdeal.Gen Idealize.ShloMosaic Idealize.ShloMosaic.TcCoe Idealize.SL.Sem
open Cert.Inproj (hrow acc)
open Cert.Attn (top sum_real)
open Cert.Route

/-- Where the largest entries of a row lie, in decreasing order. -/
def rank {n : ℕ} (f : Fin n → EReal) (i : Fin n) : Fin n := sortedFrom (fun k k' => decide (f k' < f k)) i

/-- The order that decides the largest entries. -/
theorem before_eq (a b : EReal) :
    ((FloatOps.cmpfTotal (F := Ideal) (φ := .f32) .gt a b) == 1#1) = decide (b < a) := by
  show (BitVec.ofBool (decide (b < a)) == 1#1) = decide (b < a)
  cases decide (b < a) <;> rfl

/-- The row of a matrix through an entry. -/
theorem along_row {n0 n1 : ℕ} (r : Fin n0) (i k : Fin n1) :
    Shape.Idx.along (s := ⟨2, ![n0, n1]⟩) (ix2 r i) (⟨1, Nat.lt_succ_self 1⟩ : Fin 2) k = ix2 r k := by
  funext a
  match a with
  | ⟨0, _⟩ => rfl
  | ⟨1, _⟩ => rfl

/-- Where the sort takes an entry of a row from. -/
theorem from_eq {n0 n1 : ℕ} (x : FVec Ideal ⟨2, ![n0, n1]⟩ .f32) (r : Fin n0) (i : Fin n1) :
    sortedFrom (fun k k' : Fin n1 =>
        FloatOps.cmpfTotal (F := Ideal) (φ := .f32) .gt
          (x (Shape.Idx.along (s := ⟨2, ![n0, n1]⟩) (ix2 r i) (⟨1, Nat.lt_succ_self 1⟩ : Fin 2) k))
          (x (Shape.Idx.along (s := ⟨2, ![n0, n1]⟩) (ix2 r i) (⟨1, Nat.lt_succ_self 1⟩ : Fin 2) k')) == 1#1) i
      = rank (fun l => x (ix2 r l)) i := by
  unfold rank
  congr 1
  funext k k'
  rw [along_row, along_row]
  exact before_eq _ _

/-- The first columns of a matrix. -/
theorem slice_row {α : Type} {n0 n1 k : ℕ} (v : (⟨2, ![n0, n1]⟩ : Shape).Idx → α)
    (h : (⟨2, ![n0, n1]⟩ : Shape).Slices (fun _ => 0) ⟨2, ![n0, k]⟩) (r : Fin n0) (i : Fin k) (i' : Fin n1)
    (hi : i'.val = i.val) : extractStridedSlice ⟨2, ![n0, k]⟩ (fun _ => 0) v h (ix2 r i) = v (ix2 r i') := by
  refine congrArg v ?_
  funext a
  match a with
  | ⟨0, _⟩ => exact Fin.ext (Nat.zero_add _)
  | ⟨1, _⟩ => exact Fin.ext ((Nat.zero_add _).trans hi.symm)

/-- The largest entries of each row of a matrix. -/
theorem top_value {n0 n1 k : ℕ} (x : FVec Ideal ⟨2, ![n0, n1]⟩ .f32)
    (h : (⟨2, ![n0, n1]⟩ : Shape).Slices (fun _ => 0) ⟨2, ![n0, k]⟩) (r : Fin n0) (i : Fin k) (i' : Fin n1)
    (hi : i'.val = i.val) :
    (Host.topK ⟨2, ![n0, k]⟩ 1 (FloatOps.cmpfTotal (F := Ideal) (φ := .f32) .gt) x h).1 (ix2 r i)
      = x (ix2 r (rank (fun l => x (ix2 r l)) i')) := by
  unfold Host.topK
  dsimp only
  rw [slice_row _ h r i i' hi]
  unfold Host.sort2
  rw [dif_pos (Nat.lt_succ_self 1)]
  rw [← from_eq x r i']
  exact congrArg x (along_row r i' _)

/-- Their positions. -/
theorem top_index {n0 n1 k : ℕ} (x : FVec Ideal ⟨2, ![n0, n1]⟩ .f32)
    (h : (⟨2, ![n0, n1]⟩ : Shape).Slices (fun _ => 0) ⟨2, ![n0, k]⟩) (r : Fin n0) (i : Fin k) (i' : Fin n1)
    (hi : i'.val = i.val) :
    (Host.topK ⟨2, ![n0, k]⟩ 1 (FloatOps.cmpfTotal (F := Ideal) (φ := .f32) .gt) x h).2 (ix2 r i)
      = BitVec.ofNat 32 (rank (fun l => x (ix2 r l)) i').val := by
  unfold Host.topK
  dsimp only
  rw [slice_row _ h r i i' hi]
  unfold Host.sort2
  rw [dif_pos (Nat.lt_succ_self 1)]
  rw [← from_eq x r i']
  rfl

/-- The groups' logits. -/
def GROUPS (h : FVec Ideal S32768x1024 .f32) (w : FVec Ideal S1024x128 .f32) (b : FVec Ideal S128 .f32) :
    FVec Ideal S32768x4 .f32 :=
  addf (Host.dotGeneral dot_S32768x1024_S1024x4_S32768x4_1_0_0_1_n_n none h
      (extractStridedSlice S1024x4 ![0, 0] w slices_S1024x128_S1024x4_0_0))
    (broadcastInDim S32768x4 ![0, 1] bcast_S1x4_S32768x4_0_1
      (broadcastInDim S1x4 ![1] bcast_S4_S1x4_1 (extractStridedSlice S4 ![0] b slices_S128_S4_0)))

/-- The largest entry of each row. -/
def PEAK (l : FVec Ideal S32768x4 .f32) : FVec Ideal S32768 .f32 :=
  maximumf (broadcastInDim S32768 ![] bcast_S_S32768 (constant S_ .f32 0xFF800000#32))
    (Host.reduce FloatOps.maximumf l (constant S_ .f32 0xFF800000#32) reducesTo_S32768x4_S32768_d1 h_S_)

/-- The exponentials of the groups' logits. -/
def EXPS (l : FVec Ideal S32768x4 .f32) : FVec Ideal S32768x4 .f32 :=
  Host.exp (subf l (broadcastInDim S32768x4 ![0, 1] bcast_S32768x1_S32768x4_0_1
    (broadcastInDim S32768x1 ![0] bcast_S32768_S32768x1_0 (PEAK l))))

/-- The exponentials divided by their sums. -/
def PROBS (e : FVec Ideal S32768x4 .f32) : FVec Ideal S32768x4 .f32 :=
  Host.divf e (broadcastInDim S32768x4 ![0, 1] bcast_S32768x1_S32768x4_0_1 (broadcastInDim S32768x1 ![0] bcast_S32768_S32768x1_0
    (Host.reduceAdd e (constant S_ .f32 0x00000000#32) reducesTo_S32768x4_S32768_d1 h_S_)))

/-- The likeliest group's position. -/
def PICK (p : FVec Ideal S32768x4 .f32) : IVec S32768x1 32 :=
  (Host.topK S32768x1 1 (FloatOps.cmpfTotal .gt) p sliceFits_S32768x4_S32768x1).2

/-- Its probability. -/
def BEST (p : FVec Ideal S32768x4 .f32) : FVec Ideal S32768x1 .f32 :=
  (Host.topK S32768x1 1 (FloatOps.cmpfTotal .gt) p sliceFits_S32768x4_S32768x1).1

/-- The experts' logits. -/
def ALL (h : FVec Ideal S32768x1024 .f32) (w : FVec Ideal S1024x128 .f32) (b : FVec Ideal S128 .f32) :
    FVec Ideal S32768x32 .f32 :=
  addf (Host.dotGeneral dot_S32768x1024_S1024x32_S32768x32_1_0_0_1_n_n none h
      (extractStridedSlice S1024x32 ![0, 4] w slices_S1024x128_S1024x32_0_4))
    (broadcastInDim S32768x32 ![0, 1] bcast_S1x32_S32768x32_0_1
      (broadcastInDim S1x32 ![1] bcast_S32_S1x32_1 (extractStridedSlice S32 ![4] b slices_S128_S32_4)))

/-- The logits of the experts of the groups `i`. -/
def CHOSEN (l : FVec Ideal S32768x32 .f32) (i : IVec S32768x1 32) : FVec Ideal S32768x8 .f32 :=
  Host.reduceAdd (select (broadcastInDim S32768x4x8 ![0, 1, 2] bcast_S32768x4x1_S32768x4x8_0_1_2
      (cmpi .eq (broadcastInDim S32768x4x1 ![0, 1, 2] bcast_S1x4x1_S32768x4x1_0_1_2
          (broadcastInDim S1x4x1 ![1, 2] bcast_S4x1_S1x4x1_1_2 (broadcastInDim S4x1 ![0] bcast_S4_S4x1_0 (iotaInDim S4 32 0))))
        (broadcastInDim S32768x4x1 ![0, 1, 2] bcast_S32768x1x1_S32768x4x1_0_1_2
          (broadcastInDim S32768x1x1 ![0, 1] bcast_S32768x1_S32768x1x1_0_1 i))))
      (shapeCast S32768x4x8 l shapeCasts_S32768x32_S32768x4x8)
      (broadcastInDim S32768x4x8 ![] bcast_S_S32768x4x8 (id (constant S_ .f32 0x00000000#32))))
    (constant S_ .f32 0x00000000#32) reducesTo_S32768x4x8_S32768x8_d1 h_S_

/-- The two largest. -/
def TWO (x : FVec Ideal S32768x8 .f32) : FVec Ideal S32768x2 .f32 :=
  (Host.topK S32768x2 1 (FloatOps.cmpfTotal .gt) x sliceFits_S32768x8_S32768x2).1

/-- Their positions. -/
def SPOTS (x : FVec Ideal S32768x8 .f32) : IVec S32768x2 32 :=
  (Host.topK S32768x2 1 (FloatOps.cmpfTotal .gt) x sliceFits_S32768x8_S32768x2).2

/-- Their exponentials. -/
def EXPS2 (x : FVec Ideal S32768x2 .f32) : FVec Ideal S32768x2 .f32 :=
  Host.exp (subf x (broadcastInDim S32768x2 ![0, 1] bcast_S32768x1_S32768x2_0_1
    (broadcastInDim S32768x1 ![0] bcast_S32768_S32768x1_0
      (maximumf (broadcastInDim S32768 ![] bcast_S_S32768 (constant S_ .f32 0xFF800000#32))
        (Host.reduce FloatOps.maximumf x (constant S_ .f32 0xFF800000#32) reducesTo_S32768x2_S32768_d1 h_S_)))))

/-- The experts' numbers. -/
def NUMBERS (i : IVec S32768x1 32) (s : IVec S32768x2 32) : IVec S32768x2 32 :=
  addi (broadcastInDim S32768x2 ![0, 1] bcast_S32768x1_S32768x2_0_1
    (muli i (broadcastInDim S32768x1 ![] bcast_S_S32768x1 (constantI S_ 32 8#32)))) s

/-- The experts' weights. -/
def WEIGHTS (e : FVec Ideal S32768x2 .f32) (p : FVec Ideal S32768x1 .f32) : FVec Ideal S32768x2 .f32 :=
  mulf (Host.divf e (broadcastInDim S32768x2 ![0, 1] bcast_S32768x1_S32768x2_0_1
      (broadcastInDim S32768x1 ![0] bcast_S32768_S32768x1_0
        (Host.reduceAdd e (constant S_ .f32 0x00000000#32) reducesTo_S32768x2_S32768_d1 h_S_))))
    (broadcastInDim S32768x2 ![0, 1] bcast_S32768x1_S32768x2_0_1 p)

/-- The weights in the experts' columns. -/
def SPREAD (n : IVec S32768x2 32) (w : FVec Ideal S32768x2 .f32) : FVec Ideal S32768x128 .f32 :=
  Host.reduceAdd (mulf (uitofp .f32 (cmpi .eq
      (broadcastInDim S32768x2x128 ![0, 1, 2] bcast_S32768x2x1_S32768x2x128_0_1_2
        (broadcastInDim S32768x2x1 ![0, 1] bcast_S32768x2_S32768x2x1_0_1 n))
      (broadcastInDim S32768x2x128 ![0, 1, 2] bcast_S1x1x128_S32768x2x128_0_1_2 (iotaInDim S1x1x128 32 2))))
      (broadcastInDim S32768x2x128 ![0, 1, 2] bcast_S32768x2x1_S32768x2x128_0_1_2
        (broadcastInDim S32768x2x1 ![0, 1] bcast_S32768x2_S32768x2x1_0_1 w)))
    (constant S_ .f32 0x00000000#32) reducesTo_S32768x2x128_S32768x128_d1 h_S_

/-- The routing, from the group's probabilities and the experts' logits. -/
def PLACE (p : FVec Ideal S32768x4 .f32) (x : FVec Ideal S32768x8 .f32) : FVec Ideal S32768x128 .f32 :=
  SPREAD (NUMBERS (PICK p) (SPOTS x)) (WEIGHTS (EXPS2 (TWO x)) (BEST p))

/-- The third result, from the first, the gains, the router's weights and its bias. -/
def ROUTING (x : FVec Ideal S32768x1024 .f32) (g : FVec Ideal S1024 .f32) (w : FVec Ideal S1024x128 .f32)
    (b : FVec Ideal S128 .f32) : FVec Ideal S32768x128 .f32 :=
  PLACE (PROBS (EXPS (GROUPS (ROWS x g) w b)))
    (CHOSEN (ALL (ROWS x g) w b) (PICK (PROBS (EXPS (GROUPS (ROWS x g) w b)))))

theorem neg_inf : Ideal.ofBits .f32 0xFF800000#32 = ⊥ := by simp [Ideal.ofBits, Ideal.ieee]

/-- A group's logit. -/
theorem groups_apply (h : FVec Ideal S32768x1024 .f32) (w : FVec Ideal S1024x128 .f32) (b : FVec Ideal S128 .f32)
    (r : Fin 32768) (j : Fin 4) :
    GROUPS h w b (ix2 r j) = ∑ x, h (ix2 r x) * w (ix2 x ⟨j.val, by omega⟩) + b (ix1 ⟨j.val, by omega⟩) := by
  pointwise [GROUPS]

/-- An expert's logit. -/
theorem all_apply (h : FVec Ideal S32768x1024 .f32) (w : FVec Ideal S1024x128 .f32) (b : FVec Ideal S128 .f32)
    (r : Fin 32768) (j : Fin 32) :
    ALL h w b (ix2 r j) = ∑ x, h (ix2 r x) * w (ix2 x ⟨4 + j.val, by omega⟩) + b (ix1 ⟨4 + j.val, by omega⟩) := by
  pointwise [ALL]

/-- An exponential. -/
theorem exps_apply (l : FVec Ideal S32768x4 .f32) (r : Fin 32768) (j : Fin 4) :
    EXPS l (ix2 r j) = Ideal.exp (l (ix2 r j) - Finset.univ.fold max ⊥ fun x : Fin 4 => l (ix2 r x)) := by
  pointwise [EXPS, PEAK]
  rw [neg_inf, max_eq_right bot_le]

/-- A probability. -/
theorem probs_apply (e : FVec Ideal S32768x4 .f32) (r : Fin 32768) (j : Fin 4) :
    PROBS e (ix2 r j) = Ideal.div (e (ix2 r j)) (∑ x, e (ix2 r x)) := by
  pointwise [PROBS]

/-- The likeliest group. -/
theorem pick_apply (p : FVec Ideal S32768x4 .f32) (r : Fin 32768) :
    PICK p (ix2 r 0) = BitVec.ofNat 32 (rank (fun j => p (ix2 r j)) 0).val := by
  unfold PICK
  exact top_index p sliceFits_S32768x4_S32768x1 r 0 0 rfl

/-- Its probability. -/
theorem best_apply (p : FVec Ideal S32768x4 .f32) (r : Fin 32768) :
    BEST p (ix2 r 0) = p (ix2 r (rank (fun j => p (ix2 r j)) 0)) := by
  unfold BEST
  exact top_value p sliceFits_S32768x4_S32768x1 r 0 0 rfl

/-- The two largest of a row. -/
theorem two_apply (x : FVec Ideal S32768x8 .f32) (r : Fin 32768) (j : Fin 2) :
    TWO x (ix2 r j) = x (ix2 r (rank (fun e => x (ix2 r e)) (j.castLE (by omega)))) := by
  unfold TWO
  exact top_value x sliceFits_S32768x8_S32768x2 r j (j.castLE (by omega)) rfl

/-- Their positions. -/
theorem spots_apply (x : FVec Ideal S32768x8 .f32) (r : Fin 32768) (j : Fin 2) :
    SPOTS x (ix2 r j) = BitVec.ofNat 32 (rank (fun e => x (ix2 r e)) (j.castLE (by omega))).val := by
  unfold SPOTS
  exact top_index x sliceFits_S32768x8_S32768x2 r j (j.castLE (by omega)) rfl

/-- A logit of an expert of the chosen group. -/
theorem chosen_apply (l : FVec Ideal S32768x32 .f32) (i : IVec S32768x1 32) (r : Fin 32768) (j : Fin 8) (g : Fin 4)
    (hi : i (ix2 r 0) = BitVec.ofNat 32 g.val) : CHOSEN l i (ix2 r j) = l (ix2 r ⟨g.val * 8 + j.val, by omega⟩) := by
  have hz : (id (constant (F := Ideal) S_ .f32 0#32) ix0 : EReal) = 0 := Ideal.ofBits_zero_f32
  pointwise [CHOSEN]
  rw [hi]
  refine (Finset.sum_eq_single g (fun k _ hk => ?_) (fun h => absurd (Finset.mem_univ _) h)).trans ?_
  · have hw : ∀ g k : Fin 4, k ≠ g → IntOp.cmpi .eq (BitVec.ofNat 32 k.val) (BitVec.ofNat 32 g.val) = 0#1 := by
      decide +kernel
    rw [hw g k hk]
    exact hz
  · have hw : IntOp.cmpi .eq (BitVec.ofNat 32 g.val) (BitVec.ofNat 32 g.val) = 1#1 := by simp [IntOp.cmpi]
    rw [hw]
    rfl

/-- An exponential of the two. -/
theorem exps2_apply (l : FVec Ideal S32768x2 .f32) (r : Fin 32768) (j : Fin 2) :
    EXPS2 l (ix2 r j) = Ideal.exp (l (ix2 r j) - Finset.univ.fold max ⊥ fun x : Fin 2 => l (ix2 r x)) := by
  pointwise [EXPS2]
  rw [neg_inf, max_eq_right bot_le]

/-- A weight. -/
theorem weights_apply (e : FVec Ideal S32768x2 .f32) (p : FVec Ideal S32768x1 .f32) (r : Fin 32768) (j : Fin 2) :
    WEIGHTS e p (ix2 r j) = Ideal.div (e (ix2 r j)) (∑ x, e (ix2 r x)) * p (ix2 r 0) := by
  pointwise [WEIGHTS]

/-- An expert's number. -/
theorem numbers_apply (i : IVec S32768x1 32) (s : IVec S32768x2 32) (r : Fin 32768) (j : Fin 2) :
    NUMBERS i s (ix2 r j) = IntOp.addi (IntOp.muli (i (ix2 r 0)) 8#32) (s (ix2 r j)) := by
  pointwise [NUMBERS]

/-- A column of the weights. -/
theorem spread_apply (n : IVec S32768x2 32) (w : FVec Ideal S32768x2 .f32) (r : Fin 32768) (l : Fin 128) (p : Fin 2 → ℕ)
    (hp : ∀ x, p x < 128) (hn : ∀ x, n (ix2 r x) = BitVec.ofNat 32 (p x)) :
    SPREAD n w (ix2 r l) = ∑ x : Fin 2, if l.val = p x then w (ix2 r x) else 0 := by
  pointwise [SPREAD]
  refine Finset.sum_congr rfl fun x _ => ?_
  rw [hn]
  have hw : ∀ l k : Fin 128, IntOp.cmpi .eq (BitVec.ofNat 32 k.val) (BitVec.ofNat 32 l.val)
      = if l.val = k.val then 1#1 else 0#1 := by decide +kernel
  rw [hw l ⟨p x, hp x⟩]
  show FloatOps.uitofp FTy.f32 (if l.val = p x then 1#1 else 0#1) * _ = _
  split_ifs
  · have h1 : FloatOps.uitofp (F := Ideal) FTy.f32 1#1 = (1 : EReal) := by
      show (((1#1 : BitVec 1).toNat : ℝ) : EReal) = 1
      simp
    rw [h1, one_mul]
  · have h0 : FloatOps.uitofp (F := Ideal) FTy.f32 0#1 = (0 : EReal) := by
      show (((0#1 : BitVec 1).toNat : ℝ) : EReal) = 0
      simp
    rw [h0, zero_mul]

/-- The routing of a row with real logits `ℓ`: the weights of the two likeliest experts of the likeliest group. -/
theorem place_apply (l4 : FVec Ideal S32768x4 .f32) (l32 : FVec Ideal S32768x32 .f32) (r : Fin 32768) (ℓ : ℕ → ℝ)
    (h4 : ∀ j : Fin 4, l4 (ix2 r j) = ((ℓ j.val : ℝ) : EReal))
    (h32 : ∀ j : Fin 32, l32 (ix2 r j) = ((ℓ (4 + j.val) : ℝ) : EReal)) :
    ∃ (g : Fin 4) (a b : Fin 8), First (fun j : Fin 4 => ℓ j.val) g
      ∧ First (fun e : Fin 8 => ℓ (4 + 8 * g.val + e.val)) a ∧ Next (fun e : Fin 8 => ℓ (4 + 8 * g.val + e.val)) a b
      ∧ ∀ l : Fin 128, PLACE (PROBS (EXPS l4)) (CHOSEN l32 (PICK (PROBS (EXPS l4)))) (ix2 r l)
          = gate ℓ g.val a.val b.val l.val := by
  -- the group
  set g : Fin 4 := rank (fun j => l4 (ix2 r j)) 0 with hg0
  have hgE : First (fun j : Fin 4 => l4 (ix2 r j)) g := first_sorted _ _ rfl
  have hg : First (fun j : Fin 4 => ℓ j.val) g := by
    refine First.coe ?_
    simpa only [h4] using hgE
  have hm := mass_pos ℓ g.val
  have hE : ∀ j : Fin 4, EXPS l4 (ix2 r j) = ((Real.exp (ℓ j.val - ℓ g.val) : ℝ) : EReal) := by
    intro j
    rw [exps_apply, hgE.fold, h4, h4, ← EReal.coe_sub]
    rfl
  have hP : ∀ j : Fin 4, PROBS (EXPS l4) (ix2 r j) = ((Real.exp (ℓ j.val - ℓ g.val) / mass ℓ g.val : ℝ) : EReal) := by
    intro j
    rw [probs_apply, hE]
    simp only [hE]
    rw [sum_real]
    exact div_real _ _ hm
  have hPg : First (fun j : Fin 4 => PROBS (EXPS l4) (ix2 r j)) g := by
    simp only [hP]
    intro j hj
    rcases hg j hj with h | ⟨h, h'⟩
    · refine Or.inl (EReal.coe_lt_coe_iff.mpr ?_)
      exact div_lt_div_of_pos_right (Real.exp_lt_exp.mpr (sub_lt_sub_right h _)) hm
    · refine Or.inr ⟨?_, h'⟩
      beta_reduce at h ⊢
      rw [h]
  have hrank : rank (fun j : Fin 4 => PROBS (EXPS l4) (ix2 r j)) 0 = g := (first_sorted _ _ rfl).unique hPg
  have hpick : PICK (PROBS (EXPS l4)) (ix2 r 0) = BitVec.ofNat 32 g.val := by
    rw [pick_apply, hrank]
  have hbest : BEST (PROBS (EXPS l4)) (ix2 r 0) = ((1 / mass ℓ g.val : ℝ) : EReal) := by
    rw [best_apply, hrank, hP, sub_self, Real.exp_zero]
  -- its experts
  generalize PROBS (EXPS l4) = P at hpick hbest ⊢
  clear_value g
  have hC : ∀ e : Fin 8, CHOSEN l32 (PICK P) (ix2 r e) = ((ℓ (4 + 8 * g.val + e.val) : ℝ) : EReal) := by
    intro e
    rw [chosen_apply _ _ r e g hpick, h32]
    show ((ℓ (4 + (g.val * 8 + e.val)) : ℝ) : EReal) = _
    rw [show 4 + (g.val * 8 + e.val) = 4 + 8 * g.val + e.val by omega]
  generalize CHOSEN l32 (PICK P) = C at hC ⊢
  have haE : First (fun e : Fin 8 => C (ix2 r e)) (rank (fun e => C (ix2 r e)) 0) := first_sorted _ _ rfl
  have hbE : Next (fun e : Fin 8 => C (ix2 r e)) (rank (fun e => C (ix2 r e)) 0) (rank (fun e => C (ix2 r e)) 1) :=
    next_sorted _ _ _ rfl rfl
  have v0 : TWO C (ix2 r 0) = C (ix2 r (rank (fun e => C (ix2 r e)) 0)) := two_apply C r 0
  have v1 : TWO C (ix2 r 1) = C (ix2 r (rank (fun e => C (ix2 r e)) 1)) := two_apply C r 1
  have i0 : SPOTS C (ix2 r 0) = BitVec.ofNat 32 (rank (fun e => C (ix2 r e)) 0).val := spots_apply C r 0
  have i1 : SPOTS C (ix2 r 1) = BitVec.ofNat 32 (rank (fun e => C (ix2 r e)) 1).val := spots_apply C r 1
  generalize rank (fun e => C (ix2 r e)) 0 = a at haE hbE v0 i0
  generalize rank (fun e => C (ix2 r e)) 1 = b at hbE v1 i1
  have ha : First (fun e : Fin 8 => ℓ (4 + 8 * g.val + e.val)) a := by
    refine First.coe ?_
    simpa only [hC] using haE
  have hb : Next (fun e : Fin 8 => ℓ (4 + 8 * g.val + e.val)) a b := by
    refine Next.coe ?_
    simpa only [hC] using hbE
  refine ⟨g, a, b, hg, ha, hb, fun l => ?_⟩
  have hr := ratio_pos ℓ g.val a.val b.val
  rw [hC] at v0 v1
  have hF : (Finset.univ.fold max ⊥ fun x : Fin 2 => TWO C (ix2 r x)) = ((ℓ (4 + 8 * g.val + a.val) : ℝ) : EReal) := by
    refine le_antisymm ((Finset.fold_max_le _).mpr ⟨bot_le, fun x _ => ?_⟩)
      ((Finset.le_fold_max _).mpr (Or.inr ⟨0, Finset.mem_univ _, le_of_eq v0.symm⟩))
    match x with
    | 0 => exact le_of_eq v0
    | 1 => exact (le_of_eq v1).trans (EReal.coe_le_coe_iff.mpr (ha.le b))
  have e0 : EXPS2 (TWO C) (ix2 r 0) = ((1 : ℝ) : EReal) := by
    rw [exps2_apply, hF, v0, ← EReal.coe_sub, sub_self]
    show ((Real.exp 0 : ℝ) : EReal) = _
    rw [Real.exp_zero]
  have e1 : EXPS2 (TWO C) (ix2 r 1) = ((ratio ℓ g.val a.val b.val : ℝ) : EReal) := by
    rw [exps2_apply, hF, v1, ← EReal.coe_sub]
    rfl
  have hn : ∀ x : Fin 2, NUMBERS (PICK P) (SPOTS C) (ix2 r x)
      = BitVec.ofNat 32 ((![8 * g.val + a.val, 8 * g.val + b.val] : Fin 2 → ℕ) x) := by
    have hw : ∀ (g : Fin 4) (e : Fin 8), IntOp.addi (IntOp.muli (BitVec.ofNat 32 g.val) 8#32) (BitVec.ofNat 32 e.val)
        = BitVec.ofNat 32 (8 * g.val + e.val) := by decide +kernel
    intro x
    rw [numbers_apply, hpick]
    match x with
    | 0 => rw [i0]; exact hw g a
    | 1 => rw [i1]; exact hw g b
  refine (spread_apply _ _ r l ![8 * g.val + a.val, 8 * g.val + b.val] (fun x => ?_) hn).trans ?_
  · match x with
    | 0 => show 8 * g.val + a.val < 128; omega
    | 1 => show 8 * g.val + b.val < 128; omega
  rw [Fin.sum_univ_two, weights_apply, weights_apply, Fin.sum_univ_two, e0, e1, hbest, ← EReal.coe_add,
    div_real _ _ (by linarith), div_real _ _ (by linarith), ← EReal.coe_mul, ← EReal.coe_mul]
  have q0 : 1 / (1 + ratio ℓ g.val a.val b.val) * (1 / mass ℓ g.val)
      = 1 / mass ℓ g.val / (1 + ratio ℓ g.val a.val b.val) := by ring
  have q1 : ratio ℓ g.val a.val b.val / (1 + ratio ℓ g.val a.val b.val) * (1 / mass ℓ g.val)
      = 1 / mass ℓ g.val * ratio ℓ g.val a.val b.val / (1 + ratio ℓ g.val a.val b.val) := by ring
  rw [q0, q1]
  rfl

/-- The reference's third result. -/
theorem routing_eq (m : (ℓ : Loc nD τ sig) → Buf (Elt Ideal) ℓ) (c : Dev nD) :
    SPREAD (NUMBERS (Value.res_main_indices (F := Ideal) (StableHlo.launchContents m c))
          (SPOTS (Value.res_main_v65 (F := Ideal) (StableHlo.launchContents m c))))
        (WEIGHTS (Value.res_main_v72 (F := Ideal) (StableHlo.launchContents m c))
          (BEST (Value.res_main_v51 (F := Ideal) (StableHlo.launchContents m c))))
      = ROUTING (MID (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)))
        (m ((c.tc : Thread nD τ).loc main_arg7)) (m ((c.tc : Thread nD τ).loc main_arg8))
        (m ((c.tc : Thread nD τ).loc main_arg9)) := by
  have h31 : Value.res_main_v31 (F := Ideal) (StableHlo.launchContents m c)
      = ROWS (MID (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6))) (m ((c.tc : Thread nD τ).loc main_arg7)) := by
    unfold Value.res_main_v31; rfl
  have h40 : Value.res_main_v40 (F := Ideal) (StableHlo.launchContents m c)
      = GROUPS (Value.res_main_v31 (F := Ideal) (StableHlo.launchContents m c)) (m ((c.tc : Thread nD τ).loc main_arg8))
          (m ((c.tc : Thread nD τ).loc main_arg9)) := by
    unfold Value.res_main_v40; rfl
  have h47 : Value.res_main_v47 (F := Ideal) (StableHlo.launchContents m c)
      = EXPS (Value.res_main_v40 (F := Ideal) (StableHlo.launchContents m c)) := by unfold Value.res_main_v47; rfl
  have h51 : Value.res_main_v51 (F := Ideal) (StableHlo.launchContents m c)
      = PROBS (Value.res_main_v47 (F := Ideal) (StableHlo.launchContents m c)) := by unfold Value.res_main_v51; rfl
  have hi : Value.res_main_indices (F := Ideal) (StableHlo.launchContents m c)
      = PICK (Value.res_main_v51 (F := Ideal) (StableHlo.launchContents m c)) := by unfold Value.res_main_indices; rfl
  have h65 : Value.res_main_v65 (F := Ideal) (StableHlo.launchContents m c)
      = CHOSEN (ALL (Value.res_main_v31 (F := Ideal) (StableHlo.launchContents m c))
          (m ((c.tc : Thread nD τ).loc main_arg8)) (m ((c.tc : Thread nD τ).loc main_arg9)))
          (Value.res_main_indices (F := Ideal) (StableHlo.launchContents m c)) := by unfold Value.res_main_v65; rfl
  have h9 : Value.res_main_values_9 (F := Ideal) (StableHlo.launchContents m c)
      = TWO (Value.res_main_v65 (F := Ideal) (StableHlo.launchContents m c)) := by unfold Value.res_main_values_9; rfl
  have h72 : Value.res_main_v72 (F := Ideal) (StableHlo.launchContents m c)
      = EXPS2 (Value.res_main_values_9 (F := Ideal) (StableHlo.launchContents m c)) := by unfold Value.res_main_v72; rfl
  rw [h72, h9, h65, hi, h51, h47, h40, h31]
  rfl

end Cert.PostRefIdeal.Merge

end
-- ==== Proof.InprojBlocks.lean ====
/- The rows, the weights and the gains that each visit of the input projection reads. -/
module

public import proofs.«01_k».proof.Proof.Gen.InprojIdeal.Value
public import proofs.«01_k».proof.Proof.InprojTerm
public import proofs.«01_k».proof.Proof.AttnWords
public import Idealize.ShloMosaic.Lib.Pipeline.ValueKit
public import Idealize.ShloMosaic.Lib.Claim

@[expose] public section

set_option maxRecDepth 16384

noncomputable section

namespace Cert.InprojIdeal.Proj

open Cert.InprojIdeal Cert.InprojIdeal.Gen Idealize.ShloMosaic Idealize.ShloMosaic.TcCoe Idealize.SL.Sem
open Idealize.ShloMosaic.Pipeline (Dat)
open Cert.Inproj
open Cert.Attn (floor64 floor64_apply chunkWord_eq)

variable (m : (ℓ : Loc nD τ sig) → Buf (Elt Ideal) ℓ)

/-- The blocks each visit reads and writes: the rows by the visit's number, everything else whole. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] :=
  (by decide +kernel : ∀ t : Fin grid0.N, _)

/-- The rows. -/
abbrev X (c : Dev nD) : FVec Ideal S32768x1024 .f32 := m ((c : Thread nD τ).loc main_arg0)
/-- The gains of the rows' normalisation. -/
abbrev G (c : Dev nD) : FVec Ideal S1024 .f32 := m ((c : Thread nD τ).loc main_arg1)
/-- The weights of the first result. -/
abbrev WM (c : Dev nD) : FVec Ideal S1024x5120 .f32 := m ((c : Thread nD τ).loc main_arg2)
/-- The weights of the second result. -/
abbrev WR (c : Dev nD) : FVec Ideal S1024x128 .f32 := m ((c : Thread nD τ).loc main_arg3)
/-- The gains of the queries' heads. -/
abbrev GQ (c : Dev nD) : FVec Ideal S8x64 .f32 := m ((c : Thread nD τ).loc main_arg4)
/-- The gains of the keys' heads. -/
abbrev GK (c : Dev nD) : FVec Ideal S8x64 .f32 := m ((c : Thread nD τ).loc main_arg5)

/-- The matrix of ones and zeros that sums over heads. -/
def ONES : FVec Ideal S512x512 .bf16 :=
  uitofp .bf16 (cmpi .eq
    (broadcastInDim S512x512 ![0, 1] bcast_S512x1_S512x512_0_1
      (broadcastInDim S512x1 ![0] bcast_S512_S512x1_0 (floor64 bcast_S_S512 (iotaInDim S512 32 0))))
    (broadcastInDim S512x512 ![0, 1] bcast_S1x512_S512x512_0_1
      (broadcastInDim S1x512 ![1] bcast_S512_S1x512_1 (floor64 bcast_S_S512 (iotaInDim S512 32 0)))))

/-- The kernel finds that matrix. -/
theorem V_ones (c : Dev nD) : V m c main_v7 = ONES := by
  simp only [V, hostOps0, hostOps0_1, hostOps0_2, List.flatten_cons, List.flatten_nil, List.append_nil, List.cons_append,
    List.nil_append]
  entry_read
  simp only [StableHlo.TRef.toBuf, StableHlo.TRef.ofBuf, cast_cast, cast_eq]
  rfl

/-- Its entries. -/
theorem ones_apply (k y : Fin 512) : ONES (ix2 k y) = if k.val / 64 = y.val / 64 then (1 : EReal) else 0 := by
  have hw : ∀ a b : Fin 8, IntOp.cmpi .eq (BitVec.ofNat 32 a.val) (BitVec.ofNat 32 b.val)
      = if a.val = b.val then 1#1 else 0#1 := by decide
  have h := hw ⟨k.val / 64, by omega⟩ ⟨y.val / 64, by omega⟩
  pointwise [ONES, floor64_apply]
  rw [chunkWord_eq ⟨k.val, by omega⟩, chunkWord_eq ⟨y.val, by omega⟩, h]
  show FloatOps.uitofp .bf16 (if k.val / 64 = y.val / 64 then 1#1 else 0#1) = _
  split_ifs
  · show (((1#1 : BitVec 1).toNat : ℝ) : EReal) = 1
    simp
  · show (((0#1 : BitVec 1).toNat : ℝ) : EReal) = 0
    simp

/-- A vector of gains as one row. -/
def ROW (g : FVec Ideal S1024 .f32) : FVec Ideal S1x1024 .f32 := broadcastInDim S1x1024 ![1] bcast_S1024_S1x1024_1 g

theorem row_apply (g : FVec Ideal S1024 .f32) (k : Fin 1024) : ROW g (ix2 0 k) = g (ix1 k) := by
  pointwise [ROW]

/-- The gains of all heads as one row. -/
def LINE (g : FVec Ideal S8x64 .f32) : FVec Ideal S1x512 .f32 := shapeCast S1x512 g shapeCasts_S8x64_S1x512

theorem line_apply (g : FVec Ideal S8x64 .f32) (h : Fin 8) (e : Fin 64) :
    LINE g (ix2 0 ⟨h.val * 64 + e.val, by omega⟩) = g (ix2 h e) := by
  pointwise [LINE]

theorem V_gain (c : Dev nD) : V m c main_v8 = ROW (G m c) := by
  simp only [V, hostOps0, hostOps0_1, hostOps0_2, List.flatten_cons, List.flatten_nil, List.append_nil, List.cons_append,
    List.nil_append]
  entry_read
  rfl

theorem V_queries (c : Dev nD) : V m c main_v11 = LINE (GQ m c) := by
  simp only [V, hostOps0, hostOps0_1, hostOps0_2, List.flatten_cons, List.flatten_nil, List.append_nil, List.cons_append,
    List.nil_append]
  entry_read
  rfl

theorem V_keys (c : Dev nD) : V m c main_v12 = LINE (GK m c) := by
  simp only [V, hostOps0, hostOps0_1, hostOps0_2, List.flatten_cons, List.flatten_nil, List.append_nil, List.cons_append,
    List.nil_append]
  entry_read
  rfl

theorem blk0 (c : Dev nD) (t : Fin cfg0.N) (r : Fin 512) (k : Fin 1024) :
    iblk m c 0 t (ix2 r k) = X m c (ix2 ⟨t.val * 512 + r.val, by have : t.val < 64 := t.isLt; omega⟩ k) := by
  blk_point [iblk, V, idx t]

theorem blk1 (c : Dev nD) (t : Fin cfg0.N) (k : Fin 1024) : iblk m c 1 t (ix2 0 k) = G m c (ix1 k) := by
  rw [← row_apply (G m c), ← V_gain m c]
  blk_point [iblk, idx t]

theorem blk2 (c : Dev nD) (t : Fin cfg0.N) (k : Fin 1024) (y : Fin 5120) :
    iblk m c 2 t (ix2 k y) = WM m c (ix2 k y) := by
  blk_simp [iblk]
  simp only [V, hostOps0, hostOps0_1, hostOps0_2, List.flatten_cons, List.flatten_nil, List.append_nil, List.cons_append,
    List.nil_append]
  entry_read
  blk_point [idx t]

theorem blk3 (c : Dev nD) (t : Fin cfg0.N) (k : Fin 1024) (y : Fin 128) :
    iblk m c 3 t (ix2 k y) = WR m c (ix2 k y) := by
  blk_simp [iblk]
  simp only [V, hostOps0, hostOps0_1, hostOps0_2, List.flatten_cons, List.flatten_nil, List.append_nil, List.cons_append,
    List.nil_append]
  entry_read
  blk_point [idx t]

theorem blk4 (c : Dev nD) (t : Fin cfg0.N) (h : Fin 8) (e : Fin 64) :
    iblk m c 4 t (ix2 0 ⟨h.val * 64 + e.val, by omega⟩) = GQ m c (ix2 h e) := by
  rw [← line_apply (GQ m c), ← V_queries m c]
  blk_point [iblk, idx t]

theorem blk5 (c : Dev nD) (t : Fin cfg0.N) (h : Fin 8) (e : Fin 64) :
    iblk m c 5 t (ix2 0 ⟨h.val * 64 + e.val, by omega⟩) = GK m c (ix2 h e) := by
  rw [← line_apply (GK m c), ← V_keys m c]
  blk_point [iblk, idx t]

theorem blk6 (c : Dev nD) (t : Fin cfg0.N) (k y : Fin 512) :
    iblk m c 6 t (ix2 k y) = if k.val / 64 = y.val / 64 then (1 : EReal) else 0 := by
  rw [← ones_apply, ← V_ones m c]
  blk_point [iblk, idx t]

end Cert.InprojIdeal.Proj

end
-- ==== Proof.InprojReference.lean ====
/- What the reference's input projection computes, entry by entry. -/
module

public import Idealize.ShloMosaic.Lib.Pipeline.ValueKit
public import Idealize.ShloMosaic.Lib.Claim
public import proofs.«01_k».proof.Proof.Gen.InprojRefIdeal.Run
public import proofs.«01_k».proof.Proof.InprojTerm

@[expose] public section

set_option maxRecDepth 16384

noncomputable section

namespace Cert.InprojRefIdeal.Proj

open Cert.InprojRefIdeal Cert.InprojRefIdeal.Gen Idealize.ShloMosaic Idealize.ShloMosaic.TcCoe Idealize.SL.Sem
open Cert.Inproj

/-- The normalised rows. -/
def NORMED (x : FVec Ideal S32768x1024 .f32) (g : FVec Ideal S1024 .f32) : FVec Ideal S32768x1024 .f32 :=
  mulf (mulf x (broadcastInDim S32768x1024 ![0, 1] bcast_S32768x1_S32768x1024_0_1
      (Host.rsqrt (addf
        (Host.divf (broadcastInDim S32768x1 ![0] bcast_S32768_S32768x1_0
            (Host.reduceAdd (mulf x x) (constant S_ .f32 0x00000000#32) reducesTo_S32768x1024_S32768_d1 h_S_))
          (broadcastInDim S32768x1 ![] bcast_S_S32768x1 (constant S_ .f32 0x44800000#32)))
        (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

/-- The projected columns, from the normalised rows `n`. -/
def COLUMNS (n : FVec Ideal S32768x1024 .f32) (w : FVec Ideal S1024x5120 .f32) : FVec Ideal S32768x5120 .f32 :=
  Host.dotGeneral dot_S32768x1024_S1024x5120_S32768x5120_1_0_0_1_n_n none n w

/-- The second result, from the normalised rows `n`. -/
def RATES (n : FVec Ideal S32768x1024 .f32) (w : FVec Ideal S1024x128 .f32) : FVec Ideal S32768x128 .f32 :=
  Host.dotGeneral dot_S32768x1024_S1024x128_S32768x128_1_0_0_1_n_n none n w

/-- The queries by heads, from the projected columns `u`. -/
def QUERIES (u : FVec Ideal S32768x5120 .f32) : FVec Ideal S32768x8x64 .f32 :=
  shapeCast S32768x8x64 (extractStridedSlice S32768x512 ![0, 0] u slices_S32768x5120_S32768x512_0_0) shapeCasts_S32768x512_S32768x8x64

/-- The keys by heads, from the projected columns `u`. -/
def KEYS (u : FVec Ideal S32768x5120 .f32) : FVec Ideal S32768x8x64 .f32 :=
  shapeCast S32768x8x64 (extractStridedSlice S32768x512 ![0, 512] u slices_S32768x5120_S32768x512_0_512) shapeCasts_S32768x512_S32768x8x64

/-- The heads `a` normalised and multiplied by the gains `g`. -/
def HEADS (a : FVec Ideal S32768x8x64 .f32) (g : FVec Ideal S8x64 .f32) : FVec Ideal S32768x8x64 .f32 :=
  mulf (mulf a (broadcastInDim S32768x8x64 ![0, 1, 2] bcast_S32768x8x1_S32768x8x64_0_1_2
      (Host.rsqrt (addf
        (Host.divf (broadcastInDim S32768x8x1 ![0, 1] bcast_S32768x8_S32768x8x1_0_1
            (Host.reduceAdd (mulf a a) (constant S_ .f32 0x00000000#32) reducesTo_S32768x8x64_S32768x8_d2 h_S_))
          (broadcastInDim S32768x8x1 ![] bcast_S_S32768x8x1 (constant S_ .f32 0x42800000#32)))
        (broadcastInDim S32768x8x1 ![] bcast_S_S32768x8x1 (constant S_ .f32 0x358637BD#32))))))
    (broadcastInDim S32768x8x64 ![0, 1, 2] bcast_S1x8x64_S32768x8x64_0_1_2 (broadcastInDim S1x8x64 ![1, 2] bcast_S8x64_S1x8x64_1_2 g))

/-- The first result, from the normalised queries `q` and keys `k` and the projected columns `u`. -/
def JOIN (q k : FVec Ideal S32768x8x64 .f32) (u : FVec Ideal S32768x5120 .f32) : FVec Ideal S32768x5120 .bf16 :=
  truncf .bf16 (concatenate S32768x5120 1
    [⟨S32768x512, (shapeCast S32768x512 (mulf q (broadcastInDim S32768x8x64 ![] bcast_S_S32768x8x64 (constant S_ .f32 0x3E000000#32))) shapeCasts_S32768x8x64_S32768x512 : FVec Ideal S32768x512 .f32)⟩,
      ⟨S32768x512, (shapeCast S32768x512 k shapeCasts_S32768x8x64_S32768x512 : FVec Ideal S32768x512 .f32)⟩,
      ⟨S32768x4096, (extractStridedSlice S32768x4096 ![0, 1024] u slices_S32768x5120_S32768x4096_0_1024 : FVec Ideal S32768x4096 .f32)⟩]
    concatenates_S32768x512_S32768x512_S32768x4096_S32768x5120_d1 : FVec Ideal S32768x5120 .f32) bitsLt_bf16_f32

/-- The first result, from the projected columns `u` and the gains. -/
def OUT (u : FVec Ideal S32768x5120 .f32) (gq gk : FVec Ideal S8x64 .f32) : FVec Ideal S32768x5120 .bf16 :=
  JOIN (HEADS (QUERIES u) gq) (HEADS (KEYS u) gk) u

/-- The reference's first result. -/
theorem res_eq (m : (ℓ : Loc nD τ sig) → Buf (Elt Ideal) ℓ) (c : Dev nD) :
    Value.res_main_v50 m c
      = OUT (COLUMNS (NORMED (m ((c.tc : Thread nD τ).loc main_arg0)) (m ((c.tc : Thread nD τ).loc main_arg1)))
          (m ((c.tc : Thread nD τ).loc main_arg2)))
        (m ((c.tc : Thread nD τ).loc main_arg4)) (m ((c.tc : Thread nD τ).loc main_arg5)) := by
  unfold Value.res_main_v50; rfl

/-- An entry of the normalised rows. -/
theorem normed_apply (x : FVec Ideal S32768x1024 .f32) (g : FVec Ideal S1024 .f32) (r : Fin 32768) (d : Fin 1024) :
    NORMED x g (ix2 r d) = hrow (fun k => x (ix2 r k)) (fun k => g (ix1 k)) d := by
  unfold hrow
  pointwise [NORMED]

/-- An entry of the projected columns. -/
theorem columns_apply (n : FVec Ideal S32768x1024 .f32) (w : FVec Ideal S1024x5120 .f32) (r : Fin 32768) (y : Fin 5120) :
    COLUMNS n w (ix2 r y) = ∑ d : Fin 1024, n (ix2 r d) * w (ix2 d y) := by
  pointwise [COLUMNS]

/-- An entry of the second result. -/
theorem rates_apply (n : FVec Ideal S32768x1024 .f32) (w : FVec Ideal S1024x128 .f32) (r : Fin 32768) (y : Fin 128) :
    RATES n w (ix2 r y) = ∑ d : Fin 1024, n (ix2 r d) * w (ix2 d y) := by
  pointwise [RATES]

/-- A component of a query. -/
theorem queries_apply (u : FVec Ideal S32768x5120 .f32) (r : Fin 32768) (h : Fin 8) (e : Fin 64) :
    QUERIES u (ix3 r h e) = u (ix2 r ⟨h.val * 64 + e.val, by omega⟩) := by
  pointwise [QUERIES]

/-- A component of a key. -/
theorem keys_apply (u : FVec Ideal S32768x5120 .f32) (r : Fin 32768) (h : Fin 8) (e : Fin 64) :
    KEYS u (ix3 r h e) = u (ix2 r ⟨512 + (h.val * 64 + e.val), by omega⟩) := by
  pointwise [KEYS]

/-- A component of a normalised head. -/
theorem heads_apply (a : FVec Ideal S32768x8x64 .f32) (g : FVec Ideal S8x64 .f32) (r : Fin 32768) (h : Fin 8) (e : Fin 64) :
    HEADS a g (ix3 r h e) = unit (fun k => a (ix3 r h k)) e * g (ix2 h e) := by
  unfold unit
  pointwise [HEADS]

/-- The first result at a query's component. -/
theorem join_query (q k : FVec Ideal S32768x8x64 .f32) (u : FVec Ideal S32768x5120 .f32) (r : Fin 32768) (h : Fin 8)
    (e : Fin 64) :
    JOIN q k u (ix2 r ⟨h.val * 64 + e.val, by omega⟩) = q (ix3 r h e) * Ideal.ofBits .f32 0x3E000000#32 := by
  pointwise [JOIN]
  rw [dif_pos (by omega)]

/-- The first result at a key's component. -/
theorem join_key (q k : FVec Ideal S32768x8x64 .f32) (u : FVec Ideal S32768x5120 .f32) (r : Fin 32768) (h : Fin 8)
    (e : Fin 64) :
    JOIN q k u (ix2 r ⟨512 + (h.val * 64 + e.val), by omega⟩) = k (ix3 r h e) := by
  pointwise [JOIN]
  rw [dif_pos (by omega)]

/-- The first result at every other column. -/
theorem join_rest (q k : FVec Ideal S32768x8x64 .f32) (u : FVec Ideal S32768x5120 .f32) (r : Fin 32768) (y : Fin 5120)
    (hy : 1024 ≤ y.val) : JOIN q k u (ix2 r y) = u (ix2 r y) := by
  pointwise [JOIN]
  rw [dif_neg (by omega), dif_neg (by omega)]
  congr 2
  refine Fin.ext ?_
  show 1024 + (y.val - 512 - 512) = y.val
  omega

/-- An entry of the projected columns, from the rows. -/
theorem proj_apply (x : FVec Ideal S32768x1024 .f32) (g : FVec Ideal S1024 .f32) (w : FVec Ideal S1024x5120 .f32)
    (r : Fin 32768) (y : Fin 5120) :
    COLUMNS (NORMED x g) w (ix2 r y) = acc (fun k => x (ix2 r k)) (fun k => g (ix1 k)) (fun k => w (ix2 k y)) := by
  simp only [columns_apply, normed_apply, acc]

/-- An entry of the second result, from the rows. -/
theorem rate_apply (x : FVec Ideal S32768x1024 .f32) (g : FVec Ideal S1024 .f32) (w : FVec Ideal S1024x128 .f32)
    (r : Fin 32768) (y : Fin 128) :
    RATES (NORMED x g) w (ix2 r y) = acc (fun k => x (ix2 r k)) (fun k => g (ix1 k)) (fun k => w (ix2 k y)) := by
  simp only [rates_apply, normed_apply, acc]

/-- The first result at a query's component, from the projected columns. -/
theorem out_query (u : FVec Ideal S32768x5120 .f32) (gq gk : FVec Ideal S8x64 .f32) (r : Fin 32768) (h : Fin 8) (e : Fin 64)
    (y : Fin 5120) (hy : y.val = h.val * 64 + e.val) :
    OUT u gq gk (ix2 r y) = unit (fun k => u (ix2 r ⟨h.val * 64 + k.val, by omega⟩)) e * gq (ix2 h e)
      * Ideal.ofBits .f32 0x3E000000#32 := by
  obtain ⟨n, hn⟩ := y
  obtain rfl : n = h.val * 64 + e.val := hy
  exact (join_query _ _ _ r h e).trans (by simp only [heads_apply, queries_apply])

/-- The first result at a key's component, from the projected columns. -/
theorem out_key (u : FVec Ideal S32768x5120 .f32) (gq gk : FVec Ideal S8x64 .f32) (r : Fin 32768) (h : Fin 8) (e : Fin 64)
    (y : Fin 5120) (hy : y.val = 512 + (h.val * 64 + e.val)) :
    OUT u gq gk (ix2 r y) = unit (fun k => u (ix2 r ⟨512 + (h.val * 64 + k.val), by omega⟩)) e * gk (ix2 h e) := by
  obtain ⟨n, hn⟩ := y
  obtain rfl : n = 512 + (h.val * 64 + e.val) := hy
  exact (join_key _ _ _ r h e).trans (by simp only [heads_apply, keys_apply])

end Cert.InprojRefIdeal.Proj

end
-- ==== Proof.InprojPoint.lean ====
/- What a visit of the input projection writes. -/
module

public import proofs.«01_k».proof.Proof.InprojBlocks
public import proofs.«01_k».proof.Proof.InprojReference

@[expose] public section

set_option maxRecDepth 16384

noncomputable section

namespace Cert.InprojIdeal.Proj

open Cert.InprojIdeal Cert.InprojIdeal.Gen Idealize.ShloMosaic Idealize.ShloMosaic.TcCoe Idealize.SL.Sem
open Idealize.ShloMosaic.Pipeline (Dat)
open Cert.Inproj
open Cert.InprojRefIdeal.Proj (NORMED COLUMNS RATES OUT proj_apply rate_apply out_query out_key join_rest)

variable (m : (ℓ : Loc nD τ sig) → Buf (Elt Ideal) ℓ)

/-- A block's normalised rows. -/
theorem normed_eq (v0 : FVec Ideal S512x1024 .f32) (v1 : FVec Ideal S1x1024 .f32) (r : Fin 512) (d : Fin 1024) :
    k0_pay4 (F := Ideal) v0 v1 (ix2 r d) = hrow (fun k => v0 (ix2 r k)) (fun k => v1 (ix2 0 k)) d := by
  unfold hrow
  pointwise [k0_pay4]

/-- A piece of the projected columns. -/
theorem plain_eq (n : FVec Ideal S512x1024 .bf16) (w : FVec Ideal S1024x512 .bf16) (r y : Fin 512) :
    k0_pay9 (F := Ideal) n w (ix2 r y) = ∑ d : Fin 1024, n (ix2 r d) * w (ix2 d y) := by
  pointwise [k0_pay9]

/-- The second result's block. -/
theorem rates_eq (n : FVec Ideal S512x1024 .bf16) (w : FVec Ideal S1024x128 .bf16) (r : Fin 512) (y : Fin 128) :
    k0_pay3 (F := Ideal) n w (ix2 r y) = ∑ d : Fin 1024, n (ix2 r d) * w (ix2 d y) := by
  pointwise [k0_pay3]

/-- The keys' piece, from the normalised rows `n`. -/
theorem keys_eq (n : FVec Ideal S512x1024 .bf16) (w : FVec Ideal S1024x512 .bf16) (o : FVec Ideal S512x512 .bf16)
    (g : FVec Ideal S1x512 .f32) (r y : Fin 512) :
    k0_pay8 (F := Ideal) n w o g (ix2 r y)
      = kunit (fun z => ∑ d : Fin 1024, n (ix2 r d) * w (ix2 d z)) (fun k => o (ix2 k y)) y * g (ix2 0 y) := by
  unfold kunit
  pointwise [k0_pay8]

/-- The queries' piece, from the rows. -/
theorem queries_eq (v0 : FVec Ideal S512x1024 .f32) (v1 : FVec Ideal S1x1024 .f32) (w : FVec Ideal S1024x512 .bf16)
    (o : FVec Ideal S512x512 .bf16) (g : FVec Ideal S1x512 .f32) (r y : Fin 512) :
    k0_pay7 (F := Ideal) (k0_pay5 (F := Ideal) v0 v1 w o) (k0_pay6 (F := Ideal) g) (ix2 r y)
      = kunit (fun z => ∑ d : Fin 1024, k0_pay4 (F := Ideal) v0 v1 (ix2 r d) * w (ix2 d z)) (fun k => o (ix2 k y)) y
        * (g (ix2 0 y) * Ideal.ofBits .f32 0x3E000000#32) := by
  unfold kunit
  generalize hn : k0_pay4 (F := Ideal) v0 v1 = n
  pointwise [k0_pay7, k0_pay6, k0_pay5, hn]

/-- The row of the arrays that row `r` of visit `t` is. -/
def at' (t : Fin cfg0.N) (r : Fin 512) : Fin 32768 := ⟨t.val * 512 + r.val, by have : t.val < 64 := t.isLt; omega⟩

/-- The projected columns, as the reference computes them. -/
abbrev COLS (c : Dev nD) : FVec Ideal ⟨2, ![32768, 5120]⟩ .f32 := COLUMNS (NORMED (X m c) (G m c)) (WM m c)

/-- The first result, as the reference computes it. -/
abbrev RES (c : Dev nD) : FVec Ideal ⟨2, ![32768, 5120]⟩ .bf16 := OUT (COLS m c) (GQ m c) (GK m c)

/-- The column of component `e` of head `h`. -/
abbrev part (h : Fin 8) (e : Fin 64) : Fin 512 := ⟨h.val * 64 + e.val, by omega⟩

/-- Every column is a component of a head. -/
theorem parts (z : Fin 512) : ∃ h e, z = part h e :=
  ⟨⟨z.val / 64, by omega⟩, ⟨z.val % 64, by omega⟩, Fin.ext (by show z.val = z.val / 64 * 64 + z.val % 64; omega)⟩

/-- A visit's normalised rows are rows of the array. -/
theorem visit_normed (c : Dev nD) (t : Fin cfg0.N) (v0 : FVec Ideal S512x1024 .f32) (v1 : FVec Ideal S1x1024 .f32)
    (h0 : ∀ (r : Fin 512) (d : Fin 1024), v0 (ix2 r d) = iblk m c 0 t (ix2 r d))
    (h1 : ∀ d : Fin 1024, v1 (ix2 0 d) = iblk m c 1 t (ix2 0 d)) (r : Fin 512) (d : Fin 1024) :
    k0_pay4 (F := Ideal) v0 v1 (ix2 r d) = hrow (fun k => X m c (ix2 (at' t r) k)) (fun k => G m c (ix1 k)) d := by
  rw [normed_eq]
  simp only [h0, h1, blk0, blk1, at']

/-- A visit's product is an entry of the projected columns. -/
theorem visit_acc (c : Dev nD) (t : Fin cfg0.N) (n : FVec Ideal S512x1024 .bf16) (w : FVec Ideal S1024x512 .bf16) (off : ℕ)
    (hoff : off + 512 ≤ 5120)
    (hn : ∀ (r : Fin 512) (d : Fin 1024),
      n (ix2 r d) = hrow (fun k => X m c (ix2 (at' t r) k)) (fun k => G m c (ix1 k)) d)
    (hw : ∀ (d : Fin 1024) (k : Fin 512), w (ix2 d k) = iblk m c 2 t (ix2 d ⟨off + k.val, by omega⟩)) (r y : Fin 512) :
    ∑ d : Fin 1024, n (ix2 r d) * w (ix2 d y) = COLS m c (ix2 (at' t r) ⟨off + y.val, by omega⟩) := by
  refine Eq.trans ?_ (proj_apply _ _ _ _ _).symm
  simp only [hn, hw, blk2, acc]

/-- A piece of columns that are neither queries nor keys. -/
theorem visit_plain (c : Dev nD) (t : Fin cfg0.N) (off : ℕ) (hoff : off + 512 ≤ 5120) (hlow : 1024 ≤ off)
    (n : FVec Ideal S512x1024 .bf16) (w : FVec Ideal S1024x512 .bf16)
    (hn : ∀ (r : Fin 512) (d : Fin 1024),
      n (ix2 r d) = hrow (fun k => X m c (ix2 (at' t r) k)) (fun k => G m c (ix1 k)) d)
    (hw : ∀ (d : Fin 1024) (k : Fin 512), w (ix2 d k) = iblk m c 2 t (ix2 d ⟨off + k.val, by omega⟩))
    (y : S512x5120.Idx) (z : S512x512.Idx) (h1 : (y 0).val = (z 0).val) (h2 : (y 1).val = off + (z 1).val) :
    k0_pay9 (F := Ideal) n w z = RES m c (ix2 (at' t (y 0)) (y 1)) := by
  idx_vars z
  have e0 : (y 0 : Fin 512) = z0 := Fin.ext h1
  have hz : z1.val < 512 := z1.isLt
  have e1 : y 1 = (⟨off + z1.val, by omega⟩ : Fin 5120) := Fin.ext h2
  rw [plain_eq, visit_acc m c t n w off hoff hn hw, e0, e1]
  exact (join_rest _ _ _ _ _ (by show 1024 ≤ off + z1.val; omega)).symm

/-- The projected columns of finite gains and weights are real. -/
theorem cols_real (c : Dev nD) (hg : ∀ d, ∃ a : ℝ, G m c (ix1 d) = (a : EReal))
    (hw : ∀ d (y : Fin 5120), y.val < 1024 → ∃ a : ℝ, WM m c (ix2 d y) = (a : EReal)) (r : Fin 32768) (y : Fin 5120)
    (hy : y.val < 1024) : ∃ a : ℝ, COLS m c (ix2 r y) = (a : EReal) := by
  obtain ⟨a, ha⟩ := acc_real _ _ _ hg fun d => hw d y hy
  exact ⟨a, (proj_apply _ _ _ _ _).trans ha⟩

/-- The keys' piece. -/
theorem visit_keys (c : Dev nD) (hu : ∀ r (y : Fin 5120), y.val < 1024 → ∃ a : ℝ, COLS m c (ix2 r y) = (a : EReal))
    (t : Fin cfg0.N) (n : FVec Ideal S512x1024 .bf16) (w : FVec Ideal S1024x512 .bf16) (o : FVec Ideal S512x512 .bf16)
    (g : FVec Ideal S1x512 .f32)
    (hn : ∀ (r : Fin 512) (d : Fin 1024),
      n (ix2 r d) = hrow (fun k => X m c (ix2 (at' t r) k)) (fun k => G m c (ix1 k)) d)
    (hw : ∀ (d : Fin 1024) (k : Fin 512), w (ix2 d k) = iblk m c 2 t (ix2 d ⟨512 + k.val, by omega⟩))
    (ho : ∀ k y : Fin 512, o (ix2 k y) = iblk m c 6 t (ix2 k y))
    (hg : ∀ y : Fin 512, g (ix2 0 y) = iblk m c 5 t (ix2 0 y))
    (y : S512x5120.Idx) (z : S512x512.Idx) (h1 : (y 0).val = (z 0).val) (h2 : (y 1).val = 512 + (z 1).val) :
    k0_pay8 (F := Ideal) n w o g z = RES m c (ix2 (at' t (y 0)) (y 1)) := by
  idx_vars z
  obtain ⟨h, e, rfl⟩ := parts z1
  have e0 : (y 0 : Fin 512) = z0 := Fin.ext h1
  rw [keys_eq, e0, hg, blk5]
  refine Eq.trans ?_ (out_key _ _ _ _ h e _ h2).symm
  simp only [visit_acc m c t n w 512 (by omega) hn hw, ho, blk6]
  exact congrArg (· * _) (kunit_eq _ _ h e _ rfl (fun k => hu _ _ (by show 512 + k.val < 1024; omega)) (fun k => rfl))

theorem scaled (a b c d : EReal) (h : a = b) : a * (c * d) = b * c * d := by rw [h, mul_assoc]

/-- The queries' piece. -/
theorem visit_queries (c : Dev nD) (hu : ∀ r (y : Fin 5120), y.val < 1024 → ∃ a : ℝ, COLS m c (ix2 r y) = (a : EReal))
    (t : Fin cfg0.N) (v0 : FVec Ideal S512x1024 .f32) (v1 : FVec Ideal S1x1024 .f32) (w : FVec Ideal S1024x512 .bf16)
    (o : FVec Ideal S512x512 .bf16) (g : FVec Ideal S1x512 .f32)
    (hn : ∀ (r : Fin 512) (d : Fin 1024),
      k0_pay4 (F := Ideal) v0 v1 (ix2 r d) = hrow (fun k => X m c (ix2 (at' t r) k)) (fun k => G m c (ix1 k)) d)
    (hw : ∀ (d : Fin 1024) (k : Fin 512), w (ix2 d k) = iblk m c 2 t (ix2 d ⟨0 + k.val, by omega⟩))
    (ho : ∀ k y : Fin 512, o (ix2 k y) = iblk m c 6 t (ix2 k y))
    (hg : ∀ y : Fin 512, g (ix2 0 y) = iblk m c 4 t (ix2 0 y))
    (y : S512x5120.Idx) (z : S512x512.Idx) (h1 : (y 0).val = (z 0).val) (h2 : (y 1).val = (z 1).val) :
    k0_pay7 (F := Ideal) (k0_pay5 (F := Ideal) v0 v1 w o) (k0_pay6 (F := Ideal) g) z
      = RES m c (ix2 (at' t (y 0)) (y 1)) := by
  idx_vars z
  obtain ⟨h, e, rfl⟩ := parts z1
  have e0 : (y 0 : Fin 512) = z0 := Fin.ext h1
  rw [queries_eq, e0, hg, blk4]
  refine Eq.trans ?_ (out_query _ _ _ _ h e _ h2).symm
  have hz : ∀ z : Fin 512, ∑ d : Fin 1024, k0_pay4 (F := Ideal) v0 v1 (ix2 z0 d) * w (ix2 d z)
      = COLS m c (ix2 (at' t z0) ⟨z.val, by omega⟩) := fun z => (visit_acc m c t _ w 0 (by omega) hn hw z0 z).trans
    (congrArg (fun q : Fin 5120 => COLS m c (ix2 (at' t z0) q)) (Fin.ext (Nat.zero_add _)))
  simp only [hz, ho, blk6]
  exact scaled _ _ _ _ (kunit_eq _ _ h e _ rfl (fun k => hu _ _ (by show k.val < 1024; omega)) (fun k => rfl))

/-- The block of the second result. -/
theorem visit_rates (c : Dev nD) (t : Fin cfg0.N) (n : FVec Ideal S512x1024 .bf16) (w : FVec Ideal S1024x128 .bf16)
    (hn : ∀ (r : Fin 512) (d : Fin 1024),
      n (ix2 r d) = hrow (fun k => X m c (ix2 (at' t r) k)) (fun k => G m c (ix1 k)) d)
    (hw : ∀ (d : Fin 1024) (k : Fin 128), w (ix2 d k) = iblk m c 3 t (ix2 d k))
    (y : S512x128.Idx) (z : S512x128.Idx) (h1 : (y 0).val = (z 0).val) (h2 : (y 1).val = (z 1).val) :
    k0_pay3 (F := Ideal) n w z = RATES (NORMED (X m c) (G m c)) (WR m c) (ix2 (at' t (y 0)) (y 1)) := by
  idx_vars z
  have e0 : (y 0 : Fin 512) = z0 := Fin.ext h1
  have e1 : (y 1 : Fin 128) = z1 := Fin.ext h2
  rw [rates_eq, e0, e1]
  refine Eq.trans ?_ (rate_apply _ _ _ _ _).symm
  simp only [hn, hw, blk3, acc]

/-- What a visit writes of the first result. -/
theorem point (c : Dev nD) (hu : ∀ r (y : Fin 5120), y.val < 1024 → ∃ a : ℝ, COLS m c (ix2 r y) = (a : EReal))
    (t : Fin cfg0.N) (y : S512x5120.Idx) :
    out0_7 (iblk m c 0 t) (iblk m c 1 t) (iblk m c 2 t) (iblk m c 3 t) (iblk m c 4 t) (iblk m c 5 t) (iblk m c 6 t) y
      = RES m c (ix2 (at' t (y 0)) (y 1)) := by
  unfold_out out0_7
  have hn := visit_normed m c t (View.ld (iblk m c 0 t) r0_0) (View.ld (iblk m c 1 t) r0_1)
    (by intro r d; pointwise) (by intro d; pointwise)
  have plain := fun off hoff hlow w => visit_plain m c t off hoff hlow _ w hn
  canon_tiles y h
  case piece0 => refine plain 4608 (by omega) (by omega) _ ?_ _ _ h0 h1 <;> (intro r e; pointwise)
  case piece1 => refine plain 4096 (by omega) (by omega) _ ?_ _ _ h0 h1 <;> (intro r e; pointwise)
  case piece2 => refine plain 3584 (by omega) (by omega) _ ?_ _ _ h0 h1 <;> (intro r e; pointwise)
  case piece3 => refine plain 3072 (by omega) (by omega) _ ?_ _ _ h0 h1 <;> (intro r e; pointwise)
  case piece4 => refine plain 2560 (by omega) (by omega) _ ?_ _ _ h0 h1 <;> (intro r e; pointwise)
  case piece5 => refine plain 2048 (by omega) (by omega) _ ?_ _ _ h0 h1 <;> (intro r e; pointwise)
  case piece6 => refine plain 1536 (by omega) (by omega) _ ?_ _ _ h0 h1 <;> (intro r e; pointwise)
  case piece7 => refine plain 1024 (by omega) (by omega) _ ?_ _ _ h0 h1 <;> (intro r e; pointwise)
  case piece8 => refine visit_keys m c hu t _ _ _ _ hn ?_ ?_ ?_ _ _ h0 h1 <;> (intros; pointwise)
  case piece9 => refine visit_queries m c hu t _ _ _ _ _ hn ?_ ?_ ?_ _ _ h0 h1 <;> (intros; pointwise)

/-- What a visit writes of the second result. -/
theorem point_rates (c : Dev nD) (t : Fin cfg0.N) (y : S512x128.Idx) :
    out0_8 (iblk m c 0 t) (iblk m c 1 t) (iblk m c 2 t) (iblk m c 3 t) (iblk m c 4 t) (iblk m c 5 t) (iblk m c 6 t) y
      = RATES (NORMED (X m c) (G m c)) (WR m c) (ix2 (at' t (y 0)) (y 1)) := by
  unfold_out out0_8
  have hn := visit_normed m c t (View.ld (iblk m c 0 t) r0_0) (View.ld (iblk m c 1 t) r0_1)
    (by intro r d; pointwise) (by intro d; pointwise)
  canon_tiles y h
  case piece0 => refine visit_rates m c t _ _ hn ?_ _ _ h0 h1 <;> (intros; pointwise)

end Cert.InprojIdeal.Proj

end
-- ==== Proof.InprojValue.lean ====
/- The input projection's results are the arrays the reference returns, for finite weights. -/
module

public import proofs.«01_k».proof.Proof.InprojPoint
public import proofs.«01_k».proof.Proof.AttnValue
public import proofs.«01_k».proof.Pre_finite_weights

@[expose] public section

set_option maxRecDepth 16384

noncomputable section

namespace Cert.Pre_finite_weights

open Idealize.ShloMosaic
open Cert.Pre_finite_inputs (real_of_abs)

/-- The side conditions of the precondition's operations. -/
instance facts : Facts where
  bcast_S_S1024 := by decide
  slices_S1024x5120_S1024x1024_0_0 := by decide
  bcast_S_S1024x1024 := by decide

variable (x : FVec Ideal S32768x1024 .f32) (g : FVec Ideal S1024 .f32) (w : FVec Ideal S1024x5120 .f32)
  (wr : FVec Ideal S1024x128 .f32) (gq gk : FVec Ideal S8x64 .f32)

/-- Finite gains are real. -/
theorem gains_real (h : (fn (F := Ideal) x g w wr gq gk).1 = fun _ => 1#1) (d : Fin 1024) :
    ∃ a : ℝ, g (ix1 d) = (a : EReal) := by
  refine real_of_abs _ (Eq.trans ?_ (congrFun h (ix1 d)))
  pointwise [fn]
  rfl

/-- Finite weights of the queries and keys are real. -/
theorem weights_real (h : (fn (F := Ideal) x g w wr gq gk).2 = fun _ => 1#1) (d : Fin 1024) (y : Fin 5120)
    (hy : y.val < 1024) : ∃ a : ℝ, w (ix2 d y) = (a : EReal) := by
  refine real_of_abs _ (Eq.trans ?_ (congrFun h (ix2 d ⟨y.val, hy⟩)))
  pointwise [fn]
  rfl

end Cert.Pre_finite_weights

namespace Cert.InprojIdeal.Proj

open Cert.InprojIdeal Cert.InprojIdeal.Gen Idealize.ShloMosaic Idealize.ShloMosaic.TcCoe Idealize.SL.Sem
open Idealize.ShloMosaic.Pipeline (Dat)
open Cert.Inproj
open Cert.InprojRefIdeal.Proj (NORMED RATES)

variable (m : (ℓ : Loc nD τ sig) → Buf (Elt Ideal) ℓ)

/-- The first result of the kernel. -/
theorem final7 (c : Dev nD) (hu : ∀ r (y : Fin 5120), y.val < 1024 → ∃ a : ℝ, COLS m c (ix2 r y) = (a : EReal)) :
    (dats m 0 c).arrAt 7 cfg0.N = RES m c := by
  refine (dats m 0 c).arrAt_eq_of_covers 7 _ (by decide +kernel) fun t hf y => ?_
  blk_simp
  rw [after0_7]
  refine (point m c hu t y).trans ?_
  generalize RES m c = R
  blk_ext [idx t, at']

/-- The second result of the kernel. -/
theorem final8 (c : Dev nD) : (dats m 0 c).arrAt 8 cfg0.N = RATES (NORMED (X m c) (G m c)) (WR m c) := by
  refine (dats m 0 c).arrAt_eq_of_covers 8 _ (by decide +kernel) fun t hf y => ?_
  blk_simp
  rw [after0_8]
  refine (point_rates m c t y).trans ?_
  generalize RATES (NORMED (X m c) (G m c)) (WR m c) = R
  blk_ext [idx t, at']

end Cert.InprojIdeal.Proj

end
-- ==== Proof.RouteValue.lean ====
/- The merge's third result is the array the reference returns. -/
module

public import proofs.«01_k».proof.Proof.PostValue
public import proofs.«01_k».proof.Proof.PostRoute
public import proofs.«01_k».proof.Proof.RouteReference
public import proofs.«01_k».proof.Proof.InprojValue
public import proofs.«01_k».proof.Pre_finite_router

@[expose] public section

set_option maxRecDepth 16384

noncomputable section

namespace Cert.Pre_finite_router

open Idealize.ShloMosaic
open Cert.Pre_finite_inputs (real_of_abs)

/-- The side conditions of the precondition's operations. -/
instance facts : Facts where
  bcast_S_S1024 := by decide
  slices_S1024x128_S1024x36_0_0 := by decide
  bcast_S_S1024x36 := by decide
  slices_S128_S36_0 := by decide
  bcast_S_S36 := by decide

variable (x : FVec Ideal S32768x1024 .f32) (ya yb : FVec Ideal S32768x512 .bf16) (u : FVec Ideal S32768x5120 .bf16)
  (pa pb : FVec Ideal S512x1024 .f32) (o : FVec Ideal S1024x1024 .f32) (g : FVec Ideal S1024 .f32)
  (w : FVec Ideal S1024x128 .f32) (b : FVec Ideal S128 .f32)

/-- Finite gains are real. -/
theorem gains_real (h : (fn (F := Ideal) x ya yb u pa pb o g w b).1 = fun _ => 1#1) (d : Fin 1024) :
    ∃ a : ℝ, g (ix1 d) = (a : EReal) := by
  refine real_of_abs _ (Eq.trans ?_ (congrFun h (ix1 d)))
  pointwise [fn]
  rfl

/-- Finite weights of the router are real. -/
theorem weights_real (h : (fn (F := Ideal) x ya yb u pa pb o g w b).2.1 = fun _ => 1#1) (d : Fin 1024) (l : Fin 128)
    (hl : l.val < 36) : ∃ a : ℝ, w (ix2 d l) = (a : EReal) := by
  refine real_of_abs _ (Eq.trans ?_ (congrFun h (ix2 d ⟨l.val, hl⟩)))
  pointwise [fn]
  rfl

/-- A finite bias of the router is real. -/
theorem bias_real (h : (fn (F := Ideal) x ya yb u pa pb o g w b).2.2 = fun _ => 1#1) (l : Fin 128)
    (hl : l.val < 36) : ∃ a : ℝ, b (ix1 l) = (a : EReal) := by
  refine real_of_abs _ (Eq.trans ?_ (congrFun h (ix1 ⟨l.val, hl⟩)))
  pointwise [fn]
  rfl

end Cert.Pre_finite_router

namespace Cert.PostIdeal.Merge

open Cert.PostIdeal Cert.PostIdeal.Gen Idealize.ShloMosaic Idealize.ShloMosaic.TcCoe Idealize.SL.Sem
open Idealize.ShloMosaic.Pipeline (Dat)
open Cert.Inproj (hrow acc acc_real)
open Cert.Route
open Cert.PostRefIdeal.Merge (ROWS GROUPS ALL ROUTING rows_apply all_apply place_apply)

variable (m : (ℓ : Loc nD τ sig) → Buf (Elt Ideal) ℓ)

/-- The third result, as the reference computes it. -/
abbrev GATED (c : Dev nD) : FVec Ideal ⟨2, ![32768, 128]⟩ .f32 := ROUTING (SUMS m c) (G m c) (WR m c) (BR m c)

/-- A logit of a row. -/
def logit (c : Dev nD) (R : Fin 32768) (l : Fin 128) : EReal :=
  acc (fun k => SUMS m c (ix2 R k)) (fun k => G m c (ix1 k)) (fun d => WR m c (ix2 d l)) + BR m c (ix1 l)

/-- The logits of the groups and the experts are real for real gains, weights and biases. -/
theorem logit_real (c : Dev nD) (hg : ∀ d, ∃ a : ℝ, G m c (ix1 d) = (a : EReal))
    (hw : ∀ d (l : Fin 128), l.val < 36 → ∃ a : ℝ, WR m c (ix2 d l) = (a : EReal))
    (hb : ∀ l : Fin 128, l.val < 36 → ∃ a : ℝ, BR m c (ix1 l) = (a : EReal)) (R : Fin 32768) :
    ∃ ℓ : ℕ → ℝ, ∀ l : Fin 128, l.val < 36 → logit m c R l = ((ℓ l.val : ℝ) : EReal) := by
  have h : ∀ l : Fin 128, ∃ a : ℝ, l.val < 36 → logit m c R l = (a : EReal) := by
    intro l
    by_cases hl : l.val < 36
    · obtain ⟨p, hp⟩ := acc_real (fun k => SUMS m c (ix2 R k)) (fun k => G m c (ix1 k)) (fun d => WR m c (ix2 d l)) hg
        fun d => hw d l hl
      obtain ⟨q, hq⟩ := hb l hl
      exact ⟨p + q, fun _ => by rw [logit, hp, hq, EReal.coe_add]⟩
    · exact ⟨0, fun h => absurd h hl⟩
  choose p hp using h
  refine ⟨fun n => if hn : n < 128 then p ⟨n, hn⟩ else 0, fun l hl => ?_⟩
  beta_reduce
  rw [hp l hl, dif_pos l.isLt]

/-- A block of the logits, from the first result's block, the gains, the weights and the bias. -/
theorem logit_eq (ga gb : FVec Ideal S512x1024 .bf16) (ya yb : FVec Ideal S512x512 .bf16) (pa pb : FVec Ideal S512x1024 .bf16)
    (x : FVec Ideal S512x1024 .f32) (o : FVec Ideal S1024x1024 .bf16) (g : FVec Ideal S1x1024 .f32)
    (w : FVec Ideal S1024x128 .f32) (b : FVec Ideal S1x128 .f32) (r : Fin 512) (l : Fin 128) :
    k0_pay8 (F := Ideal) (k0_pay2 (F := Ideal) ga gb ya pa yb pb x o) (k0_pay3 (F := Ideal) g)
        (k0_pay4 (F := Ideal) ga gb ya pa yb pb x o) (k0_pay5 (F := Ideal)) w b (ix2 r l)
      = acc (fun k => k0_pay2 (F := Ideal) ga gb ya pa yb pb x o (ix2 r k)) (fun k => g (ix2 0 k)) (fun d => w (ix2 d l))
          + b (ix2 0 l) := by
  unfold acc hrow
  unfold k0_pay4
  generalize k0_pay2 (F := Ideal) ga gb ya pa yb pb x o = n
  pointwise [k0_pay8, k0_pay6, k0_pay5, k0_pay3]

/-- A visit's logits. -/
theorem visit_logit (c : Dev nD) (t : Fin cfg0.N) (r : Fin 512) (l : Fin 128) :
    k0_pay8 (F := Ideal) (k0_pay2 (F := Ideal) (View.ld (iblk m c 3 t) r0_0) (View.ld (iblk m c 4 t) r0_0)
          (View.ld (iblk m c 1 t) r0_1) (View.ld (iblk m c 5 t) r0_0) (View.ld (iblk m c 2 t) r0_1)
          (View.ld (iblk m c 6 t) r0_0) (View.ld (iblk m c 0 t) r0_0) (View.ld (iblk m c 7 t) r0_2))
        (k0_pay3 (F := Ideal) (View.ld (iblk m c 8 t) r0_3))
        (k0_pay4 (F := Ideal) (View.ld (iblk m c 3 t) r0_0) (View.ld (iblk m c 4 t) r0_0)
          (View.ld (iblk m c 1 t) r0_1) (View.ld (iblk m c 5 t) r0_0) (View.ld (iblk m c 2 t) r0_1)
          (View.ld (iblk m c 6 t) r0_0) (View.ld (iblk m c 0 t) r0_0) (View.ld (iblk m c 7 t) r0_2))
        (k0_pay5 (F := Ideal)) (View.ld (iblk m c 9 t) r0_4) (View.ld (iblk m c 10 t) r0_5) (ix2 r l)
      = logit m c (at' t r) l := by
  have h8 : ∀ k : Fin 1024, View.ld (iblk m c 8 t) r0_3 (ix2 0 k) = iblk m c 8 t (ix2 0 k) := by intro k; pointwise
  have h9 : ∀ (k : Fin 1024) (l : Fin 128), View.ld (iblk m c 9 t) r0_4 (ix2 k l) = iblk m c 9 t (ix2 k l) := by
    intro k l; pointwise
  have h10 : ∀ l : Fin 128, View.ld (iblk m c 10 t) r0_5 (ix2 0 l) = iblk m c 10 t (ix2 0 l) := by intro l; pointwise
  rw [logit_eq]
  unfold logit
  simp only [visit_mid, h8, h9, h10, blk8, blk9, blk10]

/-- A row of the routing, from the values that its logits are computed from. -/
theorem gates_eq (c : Dev nD) (v22 : FVec Ideal S512x1024 .f32) (v25 : FVec Ideal S1x1024 .f32)
    (v30 v31 : FVec Ideal S512x1 .f32) (v40 : Vec Ideal S1024x128 .f32) (v42 : Vec Ideal S1x128 .f32) (R : Fin 32768)
    (r : Fin 512) (l : Fin 128) (hlog : ∀ l, LOGIT v22 v25 v30 v31 v40 v42 r l = logit m c R l)
    (hl : ∃ ℓ : ℕ → ℝ, ∀ l : Fin 128, l.val < 36 → logit m c R l = ((ℓ l.val : ℝ) : EReal)) :
    k0_pay1 (F := Ideal)
        (k0_pay22 (F := Ideal) (k0_pay8 (F := Ideal) v22 v25 v30 v31 v40 v42)
          (iota .tc S512x128 32 [1] iota_S512x128_d1_w32) (k0_pay12 (F := Ideal) v22 v25 v30 v31 v40 v42) k0_pay13
          (k0_pay14 (F := Ideal) v22 v25 v30 v31 v40 v42) (k0_pay15 (F := Ideal) v22 v25 v30 v31 v40 v42))
        (k0_pay23 (F := Ideal) (k0_pay8 (F := Ideal) v22 v25 v30 v31 v40 v42)
          (iota .tc S512x128 32 [1] iota_S512x128_d1_w32) k0_pay13
          (k0_pay14 (F := Ideal) v22 v25 v30 v31 v40 v42) (k0_pay15 (F := Ideal) v22 v25 v30 v31 v40 v42))
        (k0_pay24 (F := Ideal) (k0_pay8 (F := Ideal) v22 v25 v30 v31 v40 v42)
          (iota .tc S512x128 32 [1] iota_S512x128_d1_w32) (k0_pay12 (F := Ideal) v22 v25 v30 v31 v40 v42) k0_pay13
          (k0_pay14 (F := Ideal) v22 v25 v30 v31 v40 v42) (k0_pay15 (F := Ideal) v22 v25 v30 v31 v40 v42))
        (k0_pay25 (F := Ideal)) (ix2 r l)
      = GATED m c (ix2 R l) := by
  obtain ⟨ℓ, hℓ⟩ := hl
  obtain ⟨g, a, b, hg, ha, hb, ho⟩ := place_apply (GROUPS (ROWS (SUMS m c) (G m c)) (WR m c) (BR m c))
    (ALL (ROWS (SUMS m c) (G m c)) (WR m c) (BR m c)) R ℓ
    (fun j => by
      refine Eq.trans ?_ (hℓ ⟨j.val, by omega⟩ (by show j.val < 36; omega))
      rw [Cert.PostRefIdeal.Merge.groups_apply]
      simp only [rows_apply]
      rfl)
    (fun j => by
      refine Eq.trans ?_ (hℓ ⟨4 + j.val, by omega⟩ (by show 4 + j.val < 36; omega))
      rw [all_apply]
      simp only [rows_apply]
      rfl)
  have hL : ∀ l : Fin 128, l.val < 36 → LOGIT v22 v25 v30 v31 v40 v42 r l = ((ℓ l.val : ℝ) : EReal) := fun l h =>
    (hlog l).trans (hℓ l h)
  have h46 : ∀ l : Fin 128, iota .tc S512x128 32 [1] iota_S512x128_d1_w32 (ix2 r l) = BitVec.ofNat 32 l.val := by
    intro l; pointwise
  exact (gate_apply _ _ _ _ _ _ r h46 _ ℓ hL g a b
    (experts_apply v22 v25 v30 v31 v40 v42 r ℓ hL g hg) ha hb (group_prob v22 v25 v30 v31 v40 v42 r ℓ hL g hg) l).trans
    (ho l).symm

/-- What a visit writes of the third result. -/
theorem point_gates (c : Dev nD)
    (hl : ∀ R, ∃ ℓ : ℕ → ℝ, ∀ l : Fin 128, l.val < 36 → logit m c R l = ((ℓ l.val : ℝ) : EReal)) (t : Fin cfg0.N)
    (y : S512x128.Idx) :
    out0_13 (iblk m c 0 t) (iblk m c 1 t) (iblk m c 2 t) (iblk m c 3 t) (iblk m c 4 t) (iblk m c 5 t) (iblk m c 6 t)
        (iblk m c 7 t) (iblk m c 8 t) (iblk m c 9 t) (iblk m c 10 t) y
      = GATED m c (ix2 (at' t (y 0)) (y 1)) := by
  unfold_out out0_13
  have hv : ∀ (r : Fin 512) (l : Fin 128), _ = GATED m c (ix2 (at' t r) l) := fun r l =>
    gates_eq m c _ _ _ _ _ _ (at' t r) r l (visit_logit m c t r) (hl (at' t r))
  generalize GATED m c = R at hv ⊢
  canon_tiles y h
  case piece0 =>
    idx_vars y
    exact (hv _ _).trans (by rw [show (y 0 : Fin 512) = y0 from Fin.ext h0, show (y 1 : Fin 128) = y1 from Fin.ext h1])

/-- The third result of the kernel. -/
theorem final13 (c : Dev nD)
    (hl : ∀ R, ∃ ℓ : ℕ → ℝ, ∀ l : Fin 128, l.val < 36 → logit m c R l = ((ℓ l.val : ℝ) : EReal)) :
    (dats m 0 c).arrAt 13 cfg0.N = GATED m c := by
  refine (dats m 0 c).arrAt_eq_of_covers 13 _ (by decide +kernel) fun t hf y => ?_
  blk_simp
  rw [after0_13]
  refine (point_gates m c hl t y).trans ?_
  generalize GATED m c = R
  blk_ext [idx t, at']

end Cert.PostIdeal.Merge

end
-- ==== Proof.lean ====
module

public import proofs.«01_k».proof.Proof.Gen.Post
public import proofs.«01_k».proof.Proof.Gen.Post.Frame
public import proofs.«01_k».proof.Proof.Gen.PostIdeal
public import proofs.«01_k».proof.Proof.Gen.PostIdeal.Frame
public import proofs.«01_k».proof.Proof.Gen.PostIdeal.Value
public import proofs.«01_k».proof.Proof.Gen.PostRefIdeal
public import proofs.«01_k».proof.Proof.Gen.PostRefIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Moe
public import proofs.«01_k».proof.Proof.Gen.Moe.Skeleton
public import proofs.«01_k».proof.Proof.Gen.Moe.Launch
public import proofs.«01_k».proof.Proof.Gen.Moe.Points
public import proofs.«01_k».proof.Proof.Gen.Moe.Frame
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Points
public import proofs.«01_k».proof.Proof.Gen.MoeIdeal.Frame
public import proofs.«01_k».proof.Proof.Gen.MoeRefIdeal
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.InprojIdeal.Value
public import proofs.«01_k».proof.Proof.Gen.InprojRefIdeal.Run
public import proofs.«01_k».proof.Proof.Gen.KernelIdeal.Value
public import proofs.«01_k».proof.Proof.Gen.ReferenceIdeal.Run
public import proofs.«01_k».proof.Proof.Gen.MoeIdeal.Value
public import proofs.«01_k».proof.Proof.Gen.MoeRefIdeal.Run
public import proofs.«01_k».proof.Proof.MoeValue
public import proofs.«01_k».proof.Proof.AttnValue
public import proofs.«01_k».proof.Proof.PostValue
public import proofs.«01_k».proof.Proof.RouteValue
public import proofs.«01_k».proof.Proof.InprojValue
public import Idealize.ShloMosaic.Lib.Claim
public import Idealize.ShloMosaic.Adequacy
public import Idealize.ShloMosaic.Init

@[expose] public section

noncomputable section

namespace Cert.Proof

open Idealize.ShloMosaic Idealize.SL.Sem

theorem frame_Kernel : Cert.quiescent_Kernel := fun m g _ => Cert.Kernel.Gen.frame m g
theorem frame_KernelIdeal : Cert.quiescent_KernelIdeal := fun m g _ => Cert.KernelIdeal.Gen.frame m g
theorem frame_KernelIdeal_finite : Cert.quiescent_KernelIdeal_pre_finite_inputs := fun m g _ => Cert.KernelIdeal.Gen.frame m g
theorem frame_ReferenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)
theorem frame_ReferenceIdeal_finite : Cert.quiescent_ReferenceIdeal_pre_finite_inputs := fun m g _ => frame_ReferenceIdeal m g trivial
theorem frame_Moe : Cert.quiescent_Moe := fun m g _ => Cert.Moe.Gen.frame m g
theorem frame_MoeIdeal : Cert.quiescent_MoeIdeal := fun m g _ => Cert.MoeIdeal.Gen.frame m g
theorem frame_MoeRefIdeal : Cert.quiescent_MoeRefIdeal := fun m g _ =>
  (θ_run Cert.MoeRefIdeal.defs _ _).mono (fun r h => ⟨fun c => (h c).2, sem_eq_zero_of_no_sems (by decide) r.2⟩)
    (Cert.MoeRefIdeal.Value.run (F := Ideal) m g)

theorem frame_Inproj : Cert.quiescent_Inproj := fun m g _ => Cert.Inproj.Gen.frame m g
theorem frame_InprojIdeal : Cert.quiescent_InprojIdeal := fun m g _ => Cert.InprojIdeal.Gen.frame m g
theorem frame_InprojIdeal_finite : Cert.quiescent_InprojIdeal_pre_finite_weights := fun m g _ => Cert.InprojIdeal.Gen.frame m g
theorem frame_InprojRefIdeal : Cert.quiescent_InprojRefIdeal := fun m g _ =>
  (θ_run Cert.InprojRefIdeal.defs _ _).mono (fun r h => ⟨fun c => (h c).2.2, sem_eq_zero_of_no_sems (by decide) r.2⟩)
    (Cert.InprojRefIdeal.Value.run (F := Ideal) m g)
theorem frame_InprojRefIdeal_finite : Cert.quiescent_InprojRefIdeal_pre_finite_weights := fun m g _ => frame_InprojRefIdeal m g trivial

theorem frame_Post : Cert.quiescent_Post := fun m g _ => Cert.Post.Gen.frame m g
theorem frame_PostIdeal : Cert.quiescent_PostIdeal := fun m g _ => Cert.PostIdeal.Gen.frame m g
theorem frame_PostIdeal_finite : Cert.quiescent_PostIdeal_pre_finite_router := fun m g _ => Cert.PostIdeal.Gen.frame m g
theorem frame_PostRefIdeal : Cert.quiescent_PostRefIdeal := fun m g _ =>
  (θ_run Cert.PostRefIdeal.defs _ _).mono (fun r h => ⟨fun c => (h c).2.2.2, sem_eq_zero_of_no_sems (by decide) r.2⟩)
    (Cert.PostRefIdeal.Value.run (F := Ideal) m g)
theorem frame_PostRefIdeal_finite : Cert.quiescent_PostRefIdeal_pre_finite_router := fun m g _ => frame_PostRefIdeal m g trivial

/-- The penalties' large negative constant stands for minus infinity. -/
theorem preserves : Cert.preserves_Kernel_KernelIdeal :=
  IdealRules.named_const.statement Cert.KernelIdeal.κ "mask" .f32 0xF149F2CA#32 ⊥ rfl

theorem preserves_moe : Cert.preserves_Moe_MoeIdeal := trivial

/-- For finite inputs the attention kernel's result is the reference's, entry by entry. -/
theorem algebraic : Cert.algebraic_KernelIdeal_ReferenceIdeal_pre_finite_inputs := by
  pair_intro
  · run_from Cert.KernelIdeal.Value.run_blocks m g
  · run_from Cert.ReferenceIdeal.Value.run m' g'
    rw [Cert.ReferenceIdeal.Attn.res_eq, (hagree c).1, (hagree c).2]
    exact (Cert.KernelIdeal.Attn.final m c (Cert.Pre_finite_inputs.columns_real _ _ (hpre c).1)
      (Cert.Pre_finite_inputs.table_real _ _ (hpre c).2)).symm

/-- The expert kernel's result is the reference's, entry by entry. -/
theorem algebraic_moe : Cert.algebraic_MoeIdeal_MoeRefIdeal := by
  pair_intro
  · run_from Cert.MoeIdeal.Gen.run_main m g
  · run_from Cert.MoeRefIdeal.Value.run m' g'
    exact (Cert.MoeIdeal.Experts.final m c).symm

theorem preserves_in : Cert.preserves_Inproj_InprojIdeal := trivial

/-- For finite gains and weights the input projection's results are the reference's, entry by entry. -/
theorem algebraic_in : Cert.algebraic_InprojIdeal_InprojRefIdeal_pre_finite_weights := by
  intro m g m' g' hpre hagree
  refine ⟨_, _, Cert.InprojIdeal.Value.run_blocks m g, (θ_run Cert.InprojRefIdeal.defs _ _).mono (fun r h c => ?_)
    (Cert.InprojRefIdeal.Value.run (F := Ideal) m' g')⟩
  obtain ⟨h0, h1, hk⟩ := h c
  obtain ⟨a0, a1, a2, a3, a4, a5⟩ := hagree c
  obtain ⟨p0, p1⟩ := hpre c
  refine ⟨h0.trans ?_, h1.trans ?_, hk⟩
  · rw [Cert.InprojRefIdeal.Proj.res_eq, a0, a1, a2, a4, a5]
    exact (Cert.InprojIdeal.Proj.final7 m c (Cert.InprojIdeal.Proj.cols_real m c
      (Cert.Pre_finite_weights.gains_real _ _ _ _ _ _ p0) (Cert.Pre_finite_weights.weights_real _ _ _ _ _ _ p1))).symm
  · rw [a0, a1, a3]
    exact (Cert.InprojIdeal.Proj.final8 m c).symm

theorem preserves_post : Cert.preserves_Post_PostIdeal := trivial

/-- The merge's three results are the reference's, entry by entry. -/
theorem algebraic_post : Cert.algebraic_PostIdeal_PostRefIdeal_pre_finite_router := by
  intro m g m' g' hpre hagree
  refine ⟨_, _, _, Cert.PostIdeal.Value.run_blocks m g, (θ_run Cert.PostRefIdeal.defs _ _).mono (fun r h c => ?_)
    (Cert.PostRefIdeal.Value.run (F := Ideal) m' g')⟩
  obtain ⟨h0, h1, h2, hk⟩ := h c
  obtain ⟨a0, a1, a2, a3, a4, a5, a6, a7, a8, a9⟩ := hagree c
  obtain ⟨p0, p1, p2⟩ := hpre c
  refine ⟨h0.trans ?_, h1.trans ?_, h2.trans ?_, hk⟩
  · refine Eq.trans ?_ (Cert.PostIdeal.Merge.final11 m c).symm
    rw [Cert.PostRefIdeal.Merge.mid_eq, a0, a1, a2, a3, a4, a5, a6]
  · refine Eq.trans ?_ (Cert.PostIdeal.Merge.final12 m c).symm
    rw [Cert.PostRefIdeal.Merge.res_eq, a0, a1, a2, a3, a4, a5, a6, a7]
  · refine Eq.trans ?_ (Cert.PostIdeal.Merge.final13 m c (Cert.PostIdeal.Merge.logit_real m c
      (Cert.Pre_finite_router.gains_real _ _ _ _ _ _ _ _ _ _ p0)
      (Cert.Pre_finite_router.weights_real _ _ _ _ _ _ _ _ _ _ p1)
      (Cert.Pre_finite_router.bias_real _ _ _ _ _ _ _ _ _ _ p2))).symm
    refine (Cert.PostRefIdeal.Merge.routing_eq m' c).trans ?_
    rw [a0, a1, a2, a3, a4, a5, a6, a7, a8, a9]

theorem claim : Cert.Claim := ⟨Cert.Kernel.Gen.facts, Cert.KernelIdeal.Gen.facts, Cert.ReferenceIdeal.Gen.facts,
  Cert.Moe.Gen.facts, Cert.MoeIdeal.Gen.facts, Cert.MoeRefIdeal.Gen.facts, Cert.Inproj.Gen.facts,
  Cert.InprojIdeal.Gen.facts, Cert.InprojRefIdeal.Gen.facts, Cert.Post.Gen.facts, Cert.PostIdeal.Gen.facts,
  Cert.PostRefIdeal.Gen.facts, Cert.Pre_finite_inputs.facts, Cert.Pre_finite_weights.facts, Cert.Pre_finite_router.facts,
  frame_Kernel, frame_KernelIdeal, frame_KernelIdeal_finite, frame_ReferenceIdeal, frame_ReferenceIdeal_finite,
  frame_Moe, frame_MoeIdeal, frame_MoeRefIdeal, frame_Inproj, frame_InprojIdeal, frame_InprojIdeal_finite,
  frame_InprojRefIdeal, frame_InprojRefIdeal_finite, frame_Post, frame_PostIdeal,
  frame_PostIdeal_finite, frame_PostRefIdeal, frame_PostRefIdeal_finite, preserves, algebraic, preserves_moe, algebraic_moe, preserves_in,
  algebraic_in, preserves_post, algebraic_post⟩

end Cert.Proof

end
